-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1024 : Shape := ⟨2, ![1, 1024]⟩
abbrev S16x512x768 : Shape := ⟨3, ![16, 512, 768]⟩
abbrev S1x16 : Shape := ⟨2, ![1, 16]⟩
abbrev S16 : Shape := ⟨1, ![16]⟩
abbrev S768x1024 : Shape := ⟨2, ![768, 1024]⟩
abbrev S1024 : Shape := ⟨1, ![1024]⟩
abbrev S1024x1024 : Shape := ⟨2, ![1024, 1024]⟩
abbrev S8x1024x768 : Shape := ⟨3, ![8, 1024, 768]⟩
abbrev S16x512 : Shape := ⟨2, ![16, 512]⟩
abbrev S1x1024x768 : Shape := ⟨3, ![1, 1024, 768]⟩
abbrev S1024x1 : Shape := ⟨2, ![1024, 1]⟩
abbrev S512x16 : Shape := ⟨2, ![512, 16]⟩
abbrev S1 : Shape := ⟨1, ![1]⟩
abbrev S1024x768 : Shape := ⟨2, ![1024, 768]⟩
abbrev S512x1 : Shape := ⟨2, ![512, 1]⟩
abbrev S1x512x16 : Shape := ⟨3, ![1, 512, 16]⟩
abbrev S1x1x1 : Shape := ⟨3, ![1, 1, 1]⟩
abbrev S16x512x1 : Shape := ⟨3, ![16, 512, 1]⟩

abbrev nBuf : Space → Nat
  | .hbm => 15
  | .vmem => 15
  | .smem => 1
  | _ => 0

abbrev bufTy : (tb : Table) → Fin (tcTables nBuf tb) → BufTy
  | .hbm, ⟨0, _⟩ => ⟨S1x1024, .f32⟩
  | .hbm, ⟨1, _⟩ => ⟨S16x512x768, .f32⟩
  | .hbm, ⟨2, _⟩ => ⟨S1x16, .f32⟩
  | .hbm, ⟨3, _⟩ => ⟨S768x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1x1024, .f32⟩
  | .hbm, ⟨8, _⟩ => ⟨S1x1024, .f32⟩
  | .hbm, ⟨9, _⟩ => ⟨S1x16, .i32⟩
  | .hbm, ⟨10, _⟩ => ⟨S8x1024x768, .f32⟩
  | .hbm, ⟨11, _⟩ => ⟨S8x1024x768, .f32⟩
  | .hbm, ⟨12, _⟩ => ⟨S16x512, .f32⟩
  | .hbm, ⟨13, _⟩ => ⟨S16x512x1, .f32⟩
  | .hbm, ⟨14, _⟩ => ⟨S16x512x768, .f32⟩
  | .local _ .vmem, ⟨0, _⟩ => ⟨S1x1024x768, .f32⟩
  | .local _ .vmem, ⟨1, _⟩ => ⟨S1x1024x768, .f32⟩
  | .local _ .vmem, ⟨2, _⟩ => ⟨S768x1024, .f32⟩
  | .local _ .vmem, ⟨3, _⟩ => ⟨S1x1024, .f32⟩
  | .local _ .vmem, ⟨4, _⟩ => ⟨S1x1024, .f32⟩
  | .local _ .vmem, ⟨5, _⟩ => ⟨S1024x1024, .f32⟩
  | .local _ .vmem, ⟨6, _⟩ => ⟨S1x1024, .f32⟩
  | .local _ .vmem, ⟨7, _⟩ => ⟨S1x16, .f32⟩
  | .local _ .vmem, ⟨8, _⟩ => ⟨S1x16, .i32⟩
  | .local _ .vmem, ⟨9, _⟩ => ⟨S1x1024x768, .f32⟩
  | .local _ .vmem, ⟨10, _⟩ => ⟨S1x1024x768, .f32⟩
  | .local _ .vmem, ⟨11, _⟩ => ⟨S16x512, .f32⟩
  | .local _ .vmem, ⟨12, _⟩ => ⟨S1024x1, .bf16⟩
  | .local _ .vmem, ⟨13, _⟩ => ⟨S512x16, .f32⟩
  | .local _ .vmem, ⟨14, _⟩ => ⟨S768x1024, .bf16⟩
  | .local _ .smem, ⟨0, _⟩ => ⟨S16, .i32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v5 : Ref sig .tc := ⟨.hbm, 13, rfl⟩
abbrev main_v6 : Ref sig .tc := ⟨.hbm, 14, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let c2_i32 : BitVec 32 := 2#32
  let arg0 : BitVec 32 := BitVec.ofNat 32 (i 0).val
  let v3 : BitVec 32 := Scalar.muli c2_i32 arg0
  let v4 : Index := Scalar.indexCast v3
  ![v4.toNat]
def k0_off2 (i : grid0.Coords) : Fin 1 → Nat :=
  let c2_i32_1 : BitVec 32 := 2#32
  let arg0 : BitVec 32 := BitVec.ofNat 32 (i 0).val
  let v6 : BitVec 32 := Scalar.muli c2_i32_1 arg0
  let c1_i32 : BitVec 32 := 1#32
  let v7 : BitVec 32 := Scalar.addi v6 c1_i32
  let v8 : Index := Scalar.indexCast v7
  ![v8.toNat]
def k0_cond2 (i : grid0.Coords) : BitVec 1 :=
  let arg0 : BitVec 32 := BitVec.ofNat 32 (i 0).val
  let c7_i32 : BitVec 32 := 7#32
  let v60 : BitVec 1 := Scalar.cmpi .eq arg0 c7_i32
  let v61 : BitVec 32 := Scalar.extui v60
  let c0_i32_22 : BitVec 32 := 0#32
  let v62 : BitVec 1 := Scalar.cmpi .ne v61 c0_i32_22
  v62

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x16 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1024x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S16x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S1x1024 : Shape := ⟨2, ![1, 1024]⟩
abbrev S16x512x768 : Shape := ⟨3, ![16, 512, 768]⟩
abbrev S1x16 : Shape := ⟨2, ![1, 16]⟩
abbrev S16 : Shape := ⟨1, ![16]⟩
abbrev S768x1024 : Shape := ⟨2, ![768, 1024]⟩
abbrev S1024 : Shape := ⟨1, ![1024]⟩
abbrev S1024x1024 : Shape := ⟨2, ![1024, 1024]⟩
abbrev S512 : Shape := ⟨1, ![512]⟩
abbrev S1x512 : Shape := ⟨2, ![1, 512]⟩
abbrev S16x1 : Shape := ⟨2, ![16, 1]⟩
abbrev S16x512 : Shape := ⟨2, ![16, 512]⟩
abbrev S16x512x1 : Shape := ⟨3, ![16, 512, 1]⟩
abbrev S16x512x1024 : Shape := ⟨3, ![16, 512, 1024]⟩
abbrev S1x1x1024 : Shape := ⟨3, ![1, 1, 1024]⟩
abbrev S_ : Shape := ⟨0, ![]⟩
abbrev S16x1x1 : Shape := ⟨3, ![16, 1, 1]⟩
abbrev S8192 : Shape := ⟨1, ![8192]⟩
abbrev S1 : Shape := ⟨1, ![1]⟩

abbrev nBuf : Space → Nat
  | .hbm => 69
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S16x512x768, .f32⟩
  | .hbm, ⟨2, _⟩ => ⟨S1x16, .f32⟩
  | .hbm, ⟨3, _⟩ => ⟨S16, .i32⟩
  | .hbm, ⟨4, _⟩ => ⟨S768x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S512, .i32⟩
  | .hbm, ⟨9, _⟩ => ⟨S1x512, .i32⟩
  | .hbm, ⟨10, _⟩ => ⟨S16x1, .i32⟩
  | .hbm, ⟨11, _⟩ => ⟨S16x512, .i32⟩
  | .hbm, ⟨12, _⟩ => ⟨S16x512, .i32⟩
  | .hbm, ⟨13, _⟩ => ⟨S16x512, .i1⟩
  | .hbm, ⟨14, _⟩ => ⟨S16x512, .f32⟩
  | .hbm, ⟨15, _⟩ => ⟨S16x512x1, .f32⟩
  | .hbm, ⟨16, _⟩ => ⟨S16x512x768, .f32⟩
  | .hbm, ⟨17, _⟩ => ⟨S16x512x768, .f32⟩
  | .hbm, ⟨18, _⟩ => ⟨S16x512x1024, .f32⟩
  | .hbm, ⟨19, _⟩ => ⟨S1x1x1024, .f32⟩
  | .hbm, ⟨20, _⟩ => ⟨S16x512x1024, .f32⟩
  | .hbm, ⟨21, _⟩ => ⟨S16x512x1024, .f32⟩
  | .hbm, ⟨22, _⟩ => ⟨S16x512x1024, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S1024, .f32⟩
  | .hbm, ⟨28, _⟩ => ⟨S16x512, .f32⟩
  | .hbm, ⟨29, _⟩ => ⟨S16x512x1, .f32⟩
  | .hbm, ⟨30, _⟩ => ⟨S_, .f32⟩
  | .hbm, ⟨31, _⟩ => ⟨S16x1, .f32⟩
  | .hbm, ⟨32, _⟩ => ⟨S_, .f32⟩
  | .hbm, ⟨33, _⟩ => ⟨S16x1, .f32⟩
  | .hbm, ⟨34, _⟩ => ⟨S16x1, .f32⟩
  | .hbm, ⟨35, _⟩ => ⟨S16x1x1, .f32⟩
  | .hbm, ⟨36, _⟩ => ⟨S16x512x1, .f32⟩
  | .hbm, ⟨37, _⟩ => ⟨S16x512x1, .f32⟩
  | .hbm, ⟨38, _⟩ => ⟨S16x512x1, .f32⟩
  | .hbm, ⟨39, _⟩ => ⟨S_, .f32⟩
  | .hbm, ⟨40, _⟩ => ⟨S16x1, .f32⟩
  | .hbm, ⟨41, _⟩ => ⟨S16x1x1, .f32⟩
  | .hbm, ⟨42, _⟩ => ⟨S16x512x1, .f32⟩
  | .hbm, ⟨43, _⟩ => ⟨S16x512x1, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S16x1x1, .f32⟩
  | .hbm, ⟨48, _⟩ => ⟨S16x512x1, .f32⟩
  | .hbm, ⟨49, _⟩ => ⟨S16x512x1, .f32⟩
  | .hbm, ⟨50, _⟩ => ⟨S16x512x1, .f32⟩
  | .hbm, ⟨51, _⟩ => ⟨S16x512x1, .f32⟩
  | .hbm, ⟨52, _⟩ => ⟨S8192, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S1, .f32⟩
  | .hbm, ⟨58, _⟩ => ⟨S8192, .f32⟩
  | .hbm, ⟨59, _⟩ => ⟨S8192, .f32⟩
  | .hbm, ⟨60, _⟩ => ⟨S8192, .f32⟩
  | .hbm, ⟨61, _⟩ => ⟨S_, .f32⟩
  | .hbm, ⟨62, _⟩ => ⟨S_, .f32⟩
  | .hbm, ⟨63, _⟩ => ⟨S1, .f32⟩
  | .hbm, ⟨64, _⟩ => ⟨S8192, .f32⟩
  | .hbm, ⟨65, _⟩ => ⟨S8192, .f32⟩
  | .hbm, ⟨66, _⟩ => ⟨S16x512x1, .f32⟩
  | .hbm, ⟨67, _⟩ => ⟨S16x512x1, .f32⟩
  | .hbm, ⟨68, _⟩ => ⟨S16x512x1, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst : Ref sig .tc := ⟨.hbm, 30, rfl⟩
abbrev main_v22 : Ref sig .tc := ⟨.hbm, 31, rfl⟩
abbrev main_cst_0 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_1 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_2 : Ref sig .tc := ⟨.hbm, 44, rfl⟩
abbrev main_cst_3 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_4 : Ref sig .tc := ⟨.hbm, 53, rfl⟩
abbrev main_v40 : Ref sig .tc := ⟨.hbm, 54, rfl⟩
abbrev main_cst_5 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_6 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩

abbrev nD : Nat := 1
abbrev τ : Topo := Topo.v7x

variable {F : FTy → Type} [FloatOps F]
-- ==== Proof.Reference.Run.lean ====
/- The reference's run: the arguments stay as they are and every counter ends at zero. -/
module

public import proofs.«01_k».proof.Proof.Gen.ReferenceIdeal.Run
public import Idealize.ShloMosaic.Lib.Claim

@[expose] public section

noncomputable section

namespace Cert.ReferenceIdeal.Work

open Idealize.ShloMosaic Idealize.ShloMosaic.TcCoe Idealize.SL.Sem

variable {F : FTy → Type} [FloatOps F]

/-- The frame: every run ends with the arguments unchanged and every counter at zero. -/
theorem run_frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  -- the reference has no semaphore, so any counters are the zero ones
  (θ_run defs _ _).mono (fun r h => ⟨fun c => (h c).2.2, by
    funext g; rcases g with ⟨_, ⟨s⟩ | ⟨s⟩⟩ <;> exact s.elim0⟩) (Value.run m ρ)

end Cert.ReferenceIdeal.Work

end
-- ==== Proof.KernelIdeal.Step.lean ====
/- What one grid point of the kernel computes, as functions of the blocks it is handed. -/
module

public import proofs.«01_k».proof.Proof.Gen.KernelIdeal.Skeleton
public import Idealize.ShloMosaic.Lib.Pipeline.Value
public import Idealize.ShloMosaic.Lib.Pointwise
public import Idealize.ShloMosaic.Lib.WordCmp

@[expose] public section

noncomputable section

namespace Cert.KernelIdeal.Work

open Idealize.ShloMosaic Idealize.ShloMosaic.TcCoe
open Idealize.SL Idealize.SL.Sem
open Cert.KernelIdeal.Gen

variable {F : FTy → Type} [FloatOps F]

/-- The length of the first of the two groups that point `i` works on: the table's word `2n`. -/
def lenA (T : Vec F S16 .i32) (i : grid0.Coords) : Elt F .i32 :=
  T fun a => ⟨k0_off1 i a, Nat.lt_of_lt_of_le (Nat.lt_add_of_pos_right (by fin_cases a; exact Nat.one_pos)) (k0_off1_inb i a)⟩

/-- The length of the second of them: the table's word `2n + 1`. -/
def lenB (T : Vec F S16 .i32) (i : grid0.Coords) : Elt F .i32 :=
  T fun a => ⟨k0_off2 i a, Nat.lt_of_lt_of_le (Nat.lt_add_of_pos_right (by fin_cases a; exact Nat.one_pos)) (k0_off2_inb i a)⟩

/-- The masked rows that point `i` stores: its block of rows `x` with those past their group's length zeroed. -/
def rowsOut (T : Vec F S16 .i32) (i : grid0.Coords) (x : Vec F S1x1024x768 .f32) : Vec F S1x1024x768 .f32 :=
  k0_pay6 (lenA T i) (lenB T i) x

/-- The table of scores after point `i`: `d` with the point's two columns replaced by the scores of its rows `x`
    (weights `w`, bias `b`) against the query column `q`. -/
def scores (T : Vec F S16 .i32) (i : grid0.Coords) (x : Vec F S1x1024x768 .f32) (b : Vec F S1x1024 .f32)
    (q : Vec F S1024x1 .bf16) (w : Vec F S768x1024 .bf16) (d : Vec F S512x16 .f32) : Vec F S512x16 .f32 :=
  k0_pay1 (BitVec.ofNat 32 (i 0).val) (k0_pay7 (lenA T i) (lenB T i) x w b) q d

/-- The column of scores of the point's 1024 rows: the hidden rows times the query column. -/
def dotCol (T : Vec F S16 .i32) (i : grid0.Coords) (x : Vec F S1x1024x768 .f32) (b : Vec F S1x1024 .f32)
    (q : Vec F S1024x1 .bf16) (w : Vec F S768x1024 .bf16) : FVec F S1024x1 .f32 :=
  matmul dot_S1024x1024_S1024x1_S1024x1_1_0_0_1_n_n none (k0_pay7 (lenA T i) (lenB T i) x w b) q
    (constant S1024x1 .f32 0x00000000#32)

/-- The scores after point `i`, entry by entry: column `2i` holds the upper half of the column of scores, column
    `2i + 1` the lower half, every other column what it held before. -/
theorem scores_at (T : Vec F S16 .i32) (i : grid0.Coords) (x : Vec F S1x1024x768 .f32) (b : Vec F S1x1024 .f32)
    (q : Vec F S1024x1 .bf16) (w : Vec F S768x1024 .bf16) (d : Vec F S512x16 .f32) (y : S512x16.Idx) :
    scores T i x b q w d y
      = if (y 1).val = 2 * (i 0).val then dotCol T i x b q w (ix2 ⟨(y 0).val, Nat.lt_trans (y 0).isLt (by decide)⟩ 0)
        else if (y 1).val = 2 * (i 0).val + 1 then dotCol T i x b q w (ix2 ⟨512 + (y 0).val, by have := (y 0).isLt; change (y 0).val < 512 at this; show _ < 1024; omega⟩ 0)
        else d y := by
  pointwise [scores, k0_pay1, dotCol]
  have hi : (i 0).val < 8 := (i 0).isLt
  have hy : (y 1).val < 16 := (y 1).isLt
  rw [Scalar.select_def, Scalar.select_def]
  generalize (i 0).val = n at hi ⊢
  generalize (y 1).val = k at hy ⊢
  refine if_congr ?_ rfl (if_congr ?_ rfl rfl)
  · have e : (Scalar.muli 2#32 (BitVec.ofNat 32 n)).toNat = 2 * n := by interval_cases n <;> rfl
    word_cmp
  · have e : (Scalar.addi (Scalar.muli 2#32 (BitVec.ofNat 32 n)) 1#32).toNat = 2 * n + 1 := by interval_cases n <;> rfl
    word_cmp

/-- The scores after the points before `n`, started on `d`: point by point, each on its own rows `xs`. -/
def acc (T : Vec F S16 .i32) (xs : Fin grid0.N → Vec F S1x1024x768 .f32) (b : Vec F S1x1024 .f32)
    (q : Vec F S1024x1 .bf16) (w : Vec F S768x1024 .bf16) (d : Vec F S512x16 .f32) : (n : ℕ) → Vec F S512x16 .f32
  | 0 => d
  | n + 1 => if h : n < grid0.N then scores T (grid0.coords ⟨n, h⟩) (xs ⟨n, h⟩) b q w (acc T xs b q w d n)
      else acc T xs b q w d n

/-- One more point. -/
theorem acc_succ (T : Vec F S16 .i32) (xs : Fin grid0.N → Vec F S1x1024x768 .f32) (b : Vec F S1x1024 .f32)
    (q : Vec F S1024x1 .bf16) (w : Vec F S768x1024 .bf16) (d : Vec F S512x16 .f32) (t : Fin grid0.N) :
    acc T xs b q w d (t.val + 1) = scores T (grid0.coords t) (xs t) b q w (acc T xs b q w d t.val) := by
  rw [acc, dif_pos t.isLt]

/-- A point's grid coordinate is its position. -/
theorem coord_val (t : Fin grid0.N) : (grid0.coords t 0).val = t.val := by
  have e : (grid0.coords t 0).val = t.val / 1 % 8 := Pipeline.Grid.coords_val t 0 (by decide) rfl
  have ht : t.val < 8 := t.isLt
  omega

/-- After the points before `n`, the first `2n` columns are the points' own: entry `(r, k)` is the score of row `r` of
    group `k`, whatever the table held at the start. -/
theorem acc_at (T : Vec F S16 .i32) (xs : Fin grid0.N → Vec F S1x1024x768 .f32) (b : Vec F S1x1024 .f32)
    (q : Vec F S1024x1 .bf16) (w : Vec F S768x1024 .bf16) (d : Vec F S512x16 .f32) (n : ℕ) (hn : n ≤ 8) (r : Fin 512) (k : Fin 16)
    (hk : k.val < 2 * n) :
    acc T xs b q w d n (ix2 r k)
      = dotCol T (grid0.coords ⟨k.val / 2, by have := k.isLt; show _ < 8; omega⟩) (xs ⟨k.val / 2, by have := k.isLt; show _ < 8; omega⟩) b q w
          (ix2 ⟨512 * (k.val % 2) + r.val, by have := r.isLt; omega⟩ 0) := by
  induction n with
  | zero => omega
  | succ n ih =>
    have h := acc_succ T xs b q w d ⟨n, hn⟩
    simp only at h
    rw [h, scores_at, coord_val]
    by_cases h0 : k.val = 2 * n
    · refine (if_pos h0).trans ?_
      have e1 : n = k.val / 2 := by omega
      have e2 : r.val = 512 * (k.val % 2) + r.val := by omega
      subst e1
      exact congrArg _ (congrArg (fun z => ix2 z 0) (Fin.ext e2))
    · refine (if_neg h0).trans ?_
      by_cases h1 : k.val = 2 * n + 1
      · refine (if_pos h1).trans ?_
        have e1 : n = k.val / 2 := by omega
        have e2 : 512 + r.val = 512 * (k.val % 2) + r.val := by omega
        subst e1
        exact congrArg _ (congrArg (fun z => ix2 z 0) (Fin.ext e2))
      · refine (if_neg h1).trans ?_
        exact ih (by omega) (by omega)

/-- After the last point nothing is left of what the table held at the start. -/
theorem acc_start (T : Vec F S16 .i32) (xs : Fin grid0.N → Vec F S1x1024x768 .f32) (b : Vec F S1x1024 .f32)
    (q : Vec F S1024x1 .bf16) (w : Vec F S768x1024 .bf16) (d d' : Vec F S512x16 .f32) :
    acc T xs b q w d 8 = acc T xs b q w d' 8 := by
  funext y
  obtain ⟨r, k, rfl⟩ : ∃ r k, y = ix2 r k := ⟨y 0, y 1, eq_ix2 y⟩
  rw [acc_at T xs b q w d 8 le_rfl r k (by have := k.isLt; omega), acc_at T xs b q w d' 8 le_rfl r k (by have := k.isLt; omega)]

end Cert.KernelIdeal.Work

end
-- ==== Proof.KernelIdeal.Body.lean ====
/- The kernel body's run at one grid point, in the three cases of its two branches: what it stores, as functions of what
   it is handed. -/
module

public import proofs.«01_k».proof.Proof.KernelIdeal.Step
public import proofs.«01_k».proof.Proof.Gen.KernelIdeal.Launch
public import Idealize.ShloMosaic.Lib.Pipeline.FrameBody
public import Idealize.ShloMosaic.Lib.Pipeline.Value
public import Idealize.ShloMosaic.Lib.WholeRead
public import Idealize.ShloMosaic.Lib.Tactic

@[expose] public section

set_option maxRecDepth 16384

noncomputable section

namespace Cert.KernelIdeal.Work

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

/-- The condition under which the body sets up its scratch (the first point). -/
abbrev isFirst (i : grid0.Coords) : Prop :=
  (Scalar.cmpi .ne (Scalar.extui (Scalar.cmpi .eq (BitVec.ofNat 32 (i 0).val) 0#32)) 0#32) = 1#1
/-- The condition under which the body combines the scores (the last point). -/
abbrev isLast (i : grid0.Coords) : Prop := k0_cond2 i = 1#1

/-- The table of lengths as the body is handed it. -/
abbrev tabM : Memref sig .tc .smem S16 .i32 := Memref.whole main_arg3
/-- The table held at half the full share, at `T`. -/
abbrev tabPt (c : Dev nD) (T : Buf (Elt F) (tabM.view.loc (c : Thread nD τ))) : sProp 𝕄 :=
  tabM.view.loc (c : Thread nD τ) ↦{fullShare.right} T

section Runs

variable (c : Dev nD) (i : grid0.Coords)
  (arg2 : Memref sig .tc .vmem S1x1024x768 .f32) (harg2 : arg2.IsWhole)
  (arg3 : Memref sig .tc .vmem S768x1024 .f32) (harg3 : arg3.IsWhole)
  (arg4 : Memref sig .tc .vmem S1x1024 .f32) (harg4 : arg4.IsWhole)
  (arg5 : Memref sig .tc .vmem S1x1024 .f32) (harg5 : arg5.IsWhole)
  (arg6 : Memref sig .tc .vmem S1024x1024 .f32) (harg6 : arg6.IsWhole)
  (arg7 : Memref sig .tc .vmem S1x1024 .f32) (harg7 : arg7.IsWhole)
  (arg8 : Memref sig .tc .vmem S1x16 .f32) (harg8 : arg8.IsWhole)
  (arg9 : Memref sig .tc .vmem S1x16 .i32) (harg9 : arg9.IsWhole)
  (arg10 : Memref sig .tc .vmem S1x1024x768 .f32) (harg10 : arg10.IsWhole)
  (arg11 : Memref sig .tc .vmem S16x512 .f32) (harg11 : arg11.IsWhole)
  (arg12 : Memref sig .tc .vmem S1024x1 .bf16) (harg12 : arg12.IsWhole)
  (arg13 : Memref sig .tc .vmem S512x16 .f32) (harg13 : arg13.IsWhole)
  (arg14 : Memref sig .tc .vmem S768x1024 .bf16) (harg14 : arg14.IsWhole)
  (x : Vec F S1x1024x768 .f32) (wn : Vec F S768x1024 .f32) (b : Vec F S1x1024 .f32) (qu : Vec F S1x1024 .f32)
  (wq : Vec F S1024x1024 .f32) (bq : Vec F S1x1024 .f32) (p : Vec F S1x16 .f32) (ln : Vec F S1x16 .i32)
  (T : Vec F S16 .i32)

/-- The eight input blocks and the table of lengths, as the body is handed them and hands them back. -/
abbrev inputs : sProp 𝕄 :=
  iprop(owns (c : Thread nD τ) arg2 fullShare x ∗ owns (c : Thread nD τ) arg3 fullShare wn
    ∗ owns (c : Thread nD τ) arg4 fullShare b ∗ owns (c : Thread nD τ) arg5 fullShare qu
    ∗ owns (c : Thread nD τ) arg6 fullShare wq ∗ owns (c : Thread nD τ) arg7 fullShare bq
    ∗ owns (c : Thread nD τ) arg8 fullShare p ∗ owns (c : Thread nD τ) arg9 fullShare ln ∗ tabPt c T)

/-- The body at one point on these buffers. -/
abbrev bodyOn : Prog (TpuEff nD τ sig (Elt F) Λ₀ .tc) PUnit :=
  cc0__main_body i tabM (Memref.isWhole_whole _) arg2 harg2 arg3 harg3 arg4 harg4 arg5 harg5 arg6 harg6 arg7 harg7
    arg8 harg8 arg9 harg9 arg10 harg10 arg11 harg11 arg12 harg12 arg13 harg13 arg14 harg14

/-- One store over a whole buffer at zero offsets leaves its payload. -/
theorem read_store {S : Shape} {e : EltTy} (v : View sig .tc .vmem S e) (f : v.ty.Contents (Elt F))
    {off : Fin S.rank → ℕ} (h : off = fun _ => 0) (inb : ∀ a, off a + S.size a ≤ S.size a) (w : Vec F S e) :
    v.read (Elt F) (v.writes (Elt F) f [(⟨Rect.unit off S.size inb, w⟩ : View.Piece (Elt F) S e)]) = w :=
  (View.read_writes_eq_canon v f _ fun y => ⟨_, List.mem_singleton_self _, View.mem_set_unit_zero h inb y⟩).trans
    (View.canon_unit_zero h inb w)

/-- A load of a whole buffer at zero offsets reads its contents. -/
theorem load_whole {sp : Space} {S : Shape} {e : EltTy} {m : Memref sig .tc sp S e} (hm : m.IsWhole) (X : Vec F S e)
    {off : Fin S.rank → ℕ} (h : off = fun _ => 0) (inb : ∀ a, off a + S.size a ≤ S.size a) :
    m.view.readAt (Elt F) (Rect.unit off S.size inb).toLoadRect (hm.unread X) = X := by
  rw [View.readAt_eq_ld, hm.read_unread, View.ld_unit_zero h]

theorem zeros2 : (![0, 0] : Fin 2 → ℕ) = fun _ => 0 := by decide
theorem zeros3 : (![0, 0, 0] : Fin 3 → ℕ) = fun _ => 0 := by decide

set_option maxHeartbeats 1200000 in
/-- The first point: the query column and the weights are set up in the scratch, the rows stored masked, the scores' two
    columns replaced. -/
theorem run_first (hf : isFirst i) (hl : ¬isLast i) (d : Vec F S512x16 .f32) (E : Set ℕ) (K : PUnit → sProp 𝕄) :
    iprop(inputs c arg2 arg3 arg4 arg5 arg6 arg7 arg8 arg9 x wn b qu wq bq p ln T
        ∗ (∃ y, owns (c : Thread nD τ) arg10 fullShare y) ∗ (∃ y, owns (c : Thread nD τ) arg12 fullShare y)
        ∗ owns (c : Thread nD τ) arg13 fullShare d ∗ (∃ y, owns (c : Thread nD τ) arg14 fullShare y)
        ∗ (iprop(inputs c arg2 arg3 arg4 arg5 arg6 arg7 arg8 arg9 x wn b qu wq bq p ln T
            ∗ owns (c : Thread nD τ) arg10 fullShare (rowsOut T i x)
            ∗ owns (c : Thread nD τ) arg12 fullShare (k0_pay3 qu wq bq)
            ∗ owns (c : Thread nD τ) arg13 fullShare (scores T i x b (k0_pay3 qu wq bq) (k0_pay4 wn) d)
            ∗ owns (c : Thread nD τ) arg14 fullShare (k0_pay4 wn)) -∗ K ⟨⟩))
      ⊢ wp frame (wpE (defs₀ (F := F)) Variants.none c none) E
          (bodyOn i arg2 harg2 arg3 harg3 arg4 harg4 arg5 harg5 arg6 harg6 arg7 harg7 arg8 harg8 arg9 harg9 arg10 harg10
            arg11 harg11 arg12 harg12 arg13 harg13 arg14 harg14) K := by
  unfold bodyOn
  simp only [cc0__main_body_eq_skeleton]; unfold cc0__main_body_skel
  simp only [k0_part1_eq_skeleton]
  unfold inputs owns
  iintro ⟨⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, HT⟩,
    ⟨%y10, %f10, -, H10⟩, ⟨%y12, %f12, -, H12⟩, ⟨%f13, %e13, H13⟩, ⟨%y14, %f14, -, H14⟩, Hk⟩
  obtain rfl := harg2.eq_unread e2
  obtain rfl := harg3.eq_unread e3
  obtain rfl := harg4.eq_unread e4
  obtain rfl := harg5.eq_unread e5
  obtain rfl := harg6.eq_unread e6
  obtain rfl := harg7.eq_unread e7
  obtain rfl := harg13.eq_unread e13
  sl_exec (disch := first | sl_exact hf | sl_exact hl)
  sl_step
  iapply Hk
  isplitl [H2 H3 H4 H5 H6 H7 H8 H9 HT]
  · isplitl [H2]
    · iexists _; isplitr; · ipureintro; exact e2
      iexact H2
    isplitl [H3]
    · iexists _; isplitr; · ipureintro; exact e3
      iexact H3
    isplitl [H4]
    · iexists _; isplitr; · ipureintro; exact e4
      iexact H4
    isplitl [H5]
    · iexists _; isplitr; · ipureintro; exact e5
      iexact H5
    isplitl [H6]
    · iexists _; isplitr; · ipureintro; exact e6
      iexact H6
    isplitl [H7]
    · iexists _; isplitr; · ipureintro; exact e7
      iexact H7
    isplitl [H8]
    · iexists _; isplitr; · ipureintro; exact e8
      iexact H8
    isplitl [H9]
    · iexists _; isplitr; · ipureintro; exact e9
      iexact H9
    iexact HT
  isplitl [H10]
  · iexists _; isplitr; swap; · iexact H10
    ipureintro; sl_unfold_words; exact (read_store _ _ zeros3 _ _).trans (congrArg (k0_pay6 _ _) (load_whole harg2 x zeros3 _))
  isplitl [H12]
  · iexists _; isplitr; swap; · iexact H12
    ipureintro; sl_unfold_words
    refine (read_store _ _ zeros2 _ _).trans ?_
    rw [load_whole harg5 qu zeros2, load_whole harg6 wq zeros2, load_whole harg7 bq zeros2]
  isplitl [H13]
  · iexists _; isplitr; swap; · iexact H13
    ipureintro; sl_unfold_words
    refine (read_store _ _ zeros2 _ _).trans ?_
    rw [load_whole harg2 x zeros3, load_whole harg3 wn zeros2, load_whole harg4 b zeros2, load_whole harg5 qu zeros2,
      load_whole harg6 wq zeros2, load_whole harg7 bq zeros2, load_whole harg13 d zeros2,
      View.readCov_unit_zero _ zeros2, View.readCov_unit_zero _ zeros2]; rfl
  iexists _; isplitr; swap; · iexact H14
  ipureintro; sl_unfold_words
  refine (read_store _ _ zeros2 _ _).trans ?_
  rw [load_whole harg3 wn zeros2]

set_option maxHeartbeats 1200000 in
/-- A middle point: the rows are stored masked and the scores' two columns replaced; the query and the weights in the
    scratch stay as they are. -/
theorem run_mid (hf : ¬isFirst i) (hl : ¬isLast i) (q : Vec F S1024x1 .bf16) (d : Vec F S512x16 .f32)
    (w : Vec F S768x1024 .bf16) (E : Set ℕ) (K : PUnit → sProp 𝕄) :
    iprop(inputs c arg2 arg3 arg4 arg5 arg6 arg7 arg8 arg9 x wn b qu wq bq p ln T
        ∗ (∃ y, owns (c : Thread nD τ) arg10 fullShare y) ∗ owns (c : Thread nD τ) arg12 fullShare q
        ∗ owns (c : Thread nD τ) arg13 fullShare d ∗ owns (c : Thread nD τ) arg14 fullShare w
        ∗ (iprop(inputs c arg2 arg3 arg4 arg5 arg6 arg7 arg8 arg9 x wn b qu wq bq p ln T
            ∗ owns (c : Thread nD τ) arg10 fullShare (rowsOut T i x) ∗ owns (c : Thread nD τ) arg12 fullShare q
            ∗ owns (c : Thread nD τ) arg13 fullShare (scores T i x b q w d)
            ∗ owns (c : Thread nD τ) arg14 fullShare w) -∗ K ⟨⟩))
      ⊢ wp frame (wpE (defs₀ (F := F)) Variants.none c none) E
          (bodyOn i arg2 harg2 arg3 harg3 arg4 harg4 arg5 harg5 arg6 harg6 arg7 harg7 arg8 harg8 arg9 harg9 arg10 harg10
            arg11 harg11 arg12 harg12 arg13 harg13 arg14 harg14) K := by
  unfold bodyOn
  simp only [cc0__main_body_eq_skeleton]; unfold cc0__main_body_skel
  simp only [k0_part1_eq_skeleton]
  unfold inputs owns
  iintro ⟨⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, HT⟩,
    ⟨%y10, %f10, -, H10⟩, ⟨%f12, %e12, H12⟩, ⟨%f13, %e13, H13⟩, ⟨%f14, %e14, H14⟩, Hk⟩
  obtain rfl := harg2.eq_unread e2
  obtain rfl := harg4.eq_unread e4
  obtain rfl := harg12.eq_unread e12
  obtain rfl := harg13.eq_unread e13
  obtain rfl := harg14.eq_unread e14
  sl_exec (disch := first | sl_exact hf | sl_exact hl)
  sl_step
  iapply Hk
  isplitl [H2 H3 H4 H5 H6 H7 H8 H9 HT]
  · isplitl [H2]
    · iexists _; isplitr; · ipureintro; exact e2
      iexact H2
    isplitl [H3]
    · iexists _; isplitr; · ipureintro; exact e3
      iexact H3
    isplitl [H4]
    · iexists _; isplitr; · ipureintro; exact e4
      iexact H4
    isplitl [H5]
    · iexists _; isplitr; · ipureintro; exact e5
      iexact H5
    isplitl [H6]
    · iexists _; isplitr; · ipureintro; exact e6
      iexact H6
    isplitl [H7]
    · iexists _; isplitr; · ipureintro; exact e7
      iexact H7
    isplitl [H8]
    · iexists _; isplitr; · ipureintro; exact e8
      iexact H8
    isplitl [H9]
    · iexists _; isplitr; · ipureintro; exact e9
      iexact H9
    iexact HT
  isplitl [H10]
  · iexists _; isplitr; swap; · iexact H10
    ipureintro; sl_unfold_words; exact (read_store _ _ zeros3 _ _).trans (congrArg (k0_pay6 _ _) (load_whole harg2 x zeros3 _))
  isplitl [H12]
  · iexists _; isplitr; swap; · iexact H12
    ipureintro; exact e12
  isplitl [H13]
  · iexists _; isplitr; swap; · iexact H13
    ipureintro; sl_unfold_words
    refine (read_store _ _ zeros2 _ _).trans ?_
    rw [load_whole harg2 x zeros3, load_whole harg4 b zeros2, load_whole harg12 q zeros2, load_whole harg13 d zeros2,
      load_whole harg14 w zeros2]; rfl
  iexists _; isplitr; swap; · iexact H14
  ipureintro; exact e14

set_option maxHeartbeats 1200000 in
/-- The last point: as a middle one, and the combination of the completed scores is stored. -/
theorem run_last (hf : ¬isFirst i) (hl : isLast i) (q : Vec F S1024x1 .bf16) (d : Vec F S512x16 .f32)
    (w : Vec F S768x1024 .bf16) (E : Set ℕ) (K : PUnit → sProp 𝕄) :
    iprop(inputs c arg2 arg3 arg4 arg5 arg6 arg7 arg8 arg9 x wn b qu wq bq p ln T
        ∗ (∃ y, owns (c : Thread nD τ) arg10 fullShare y) ∗ (∃ y, owns (c : Thread nD τ) arg11 fullShare y)
        ∗ owns (c : Thread nD τ) arg12 fullShare q ∗ owns (c : Thread nD τ) arg13 fullShare d
        ∗ owns (c : Thread nD τ) arg14 fullShare w
        ∗ (iprop(inputs c arg2 arg3 arg4 arg5 arg6 arg7 arg8 arg9 x wn b qu wq bq p ln T
            ∗ owns (c : Thread nD τ) arg10 fullShare (rowsOut T i x)
            ∗ owns (c : Thread nD τ) arg11 fullShare (k0_pay2 (scores T i x b q w d) p ln)
            ∗ owns (c : Thread nD τ) arg12 fullShare q ∗ owns (c : Thread nD τ) arg13 fullShare (scores T i x b q w d)
            ∗ owns (c : Thread nD τ) arg14 fullShare w) -∗ K ⟨⟩))
      ⊢ wp frame (wpE (defs₀ (F := F)) Variants.none c none) E
          (bodyOn i arg2 harg2 arg3 harg3 arg4 harg4 arg5 harg5 arg6 harg6 arg7 harg7 arg8 harg8 arg9 harg9 arg10 harg10
            arg11 harg11 arg12 harg12 arg13 harg13 arg14 harg14) K := by
  unfold bodyOn
  simp only [cc0__main_body_eq_skeleton]; unfold cc0__main_body_skel
  simp only [k0_part1_eq_skeleton]
  unfold inputs owns
  iintro ⟨⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, HT⟩,
    ⟨%y10, %f10, -, H10⟩, ⟨%y11, %f11, -, H11⟩, ⟨%f12, %e12, H12⟩, ⟨%f13, %e13, H13⟩, ⟨%f14, %e14, H14⟩, Hk⟩
  obtain rfl := harg2.eq_unread e2
  obtain rfl := harg4.eq_unread e4
  obtain rfl := harg8.eq_unread e8
  obtain rfl := harg9.eq_unread e9
  obtain rfl := harg12.eq_unread e12
  obtain rfl := harg13.eq_unread e13
  obtain rfl := harg14.eq_unread e14
  sl_exec (disch := first | sl_exact hf | sl_exact hl)
  sl_step
  iapply Hk
  isplitl [H2 H3 H4 H5 H6 H7 H8 H9 HT]
  · isplitl [H2]
    · iexists _; isplitr; · ipureintro; exact e2
      iexact H2
    isplitl [H3]
    · iexists _; isplitr; · ipureintro; exact e3
      iexact H3
    isplitl [H4]
    · iexists _; isplitr; · ipureintro; exact e4
      iexact H4
    isplitl [H5]
    · iexists _; isplitr; · ipureintro; exact e5
      iexact H5
    isplitl [H6]
    · iexists _; isplitr; · ipureintro; exact e6
      iexact H6
    isplitl [H7]
    · iexists _; isplitr; · ipureintro; exact e7
      iexact H7
    isplitl [H8]
    · iexists _; isplitr; · ipureintro; exact e8
      iexact H8
    isplitl [H9]
    · iexists _; isplitr; · ipureintro; exact e9
      iexact H9
    iexact HT
  isplitl [H10]
  · iexists _; isplitr; swap; · iexact H10
    ipureintro; sl_unfold_words; exact (read_store _ _ zeros3 _ _).trans (congrArg (k0_pay6 _ _) (load_whole harg2 x zeros3 _))
  isplitl [H11]
  · iexists _; isplitr; swap; · iexact H11
    ipureintro; sl_unfold_words
    refine (read_store _ _ zeros2 _ _).trans ?_
    rw [View.readCov_unit_zero _ zeros2, load_whole harg8 p zeros2, load_whole harg9 ln zeros2,
      load_whole harg2 x zeros3, load_whole harg4 b zeros2, load_whole harg12 q zeros2, load_whole harg13 d zeros2,
      load_whole harg14 w zeros2]; rfl
  isplitl [H12]
  · iexists _; isplitr; swap; · iexact H12
    ipureintro; exact e12
  isplitl [H13]
  · iexists _; isplitr; swap; · iexact H13
    ipureintro; sl_unfold_words
    refine (read_store _ _ zeros2 _ _).trans ?_
    rw [load_whole harg2 x zeros3, load_whole harg4 b zeros2, load_whole harg12 q zeros2, load_whole harg13 d zeros2,
      load_whole harg14 w zeros2]; rfl
  iexists _; isplitr; swap; · iexact H14
  ipureintro; exact e14

end Runs

end Cert.KernelIdeal.Work

end
-- ==== Proof.KernelIdeal.Setup.lean ====
/- The launch: what the host lines before the region leave in memory, the table of lengths, the windows' blocks, the
   schedule of the two results, and the proof data of the pipeline. -/
module

public import proofs.«01_k».proof.Proof.KernelIdeal.Body
public import Idealize.ShloMosaic.Lib.Pipeline.FrameSuffix

@[expose] public section

set_option maxRecDepth 16384

noncomputable section

namespace Cert.KernelIdeal.Work

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## Memory at the region's entry -/

/-- Core `c`'s buffers when the region is entered: the launch memory after the four reshapes. -/
abbrev V₀ (c : Dev nD) : Valuation τ sig (Elt F) :=
  StableHlo.after ([hostOps0] : List (List (HloOp τ sig (Elt F)))).flatten (fun b => m (c, b))
/-- The same, read at a reference. -/
abbrev V (c : Dev nD) (b : Ref sig .tc) : Buf (Elt F) ((c : Thread nD τ).loc b) := V₀ m c (Proc.devRef .tc b)

/-- A buffer that no reshape writes still holds what it held at the launch. -/
theorem V_of_not_written (c : Dev nD) (b : Ref sig .tc) (h0 : b ≠ main_v0) (h1 : b ≠ main_v1) (h2 : b ≠ main_v2) (h3 : b ≠ main_v3) :
    V m c b = m ((c : Thread nD τ).loc b) :=
  StableHlo.after_of_forall_not_mem (b := Proc.devRef .tc b) _ _ (List.forall_iff_forall_mem.mp (by
    simp only [hostOps0, List.flatten_cons, List.flatten_nil, List.append_nil, List.Forall, StableHlo.reshape_writes, Finset.mem_singleton]
    exact ⟨StableHlo.devRef_ne_of_ne h0, StableHlo.devRef_ne_of_ne h1, StableHlo.devRef_ne_of_ne h2, StableHlo.devRef_ne_of_ne h3⟩))

set_option maxHeartbeats 800000 in
/-- `main` is the reshapes, the region, and the two reshapes of the results. -/
theorem main_around (𝒱₀ : Variants) :
    Pipeline.HMainPK (Ix := Unit) (Name := ℕ) (U := UR sig nD τ) (Lvl := ℕ) pcfgs 0 defs₀ 𝒱₀ m (main (F := F)) (V m)
      (fun _ => Pipeline.chain (([hostOps1] : List (List (HloOp τ sig (Elt F)))).map StableHlo.seq)) :=
  Pipeline.hmainP_around pcfgs 0 defs₀ 𝒱₀ m main [hostOps0] [hostOps1] hostOps0_sub ⟨rfl, rfl, rfl, rfl⟩ fun c => (main_chain c).trans rfl

/-! ## The table of lengths -/

/-- The table's contents when the region is entered. -/
def tbl : pre0.Contents (Elt F) := fun j => V m (0 : Dev nD) (pre0.ref j)
/-- On every device it holds those contents: there is one device. -/
theorem V_pre (c : Dev nD) (j : Fin 1) : V m c (pre0.ref j) = tbl m j := by
  obtain rfl : c = 0 := Subsingleton.elim _ _; rfl
/-- Any contents of the table are admissible: no window's index map reads it. -/
abbrev adm : (pcfg0 (F := F)).Adm := ⟨tbl m, trivial⟩
abbrev cfgM : Pipeline.Cfg sig Λ₀ := cfg0 (adm m)
/-- The sixteen lengths. -/
abbrev lens : Vec F S16 .i32 := tbl m 0

/-- What the region hands the body of the table: half of its share. -/
theorem PhiT_eq (c : Dev nD) : (Pipeline.ΦT pre0 (tbl m) c : sProp 𝕄) = tabPt c (lens m) := by
  unfold Pipeline.ΦT Pipeline.prefHeld
  rw [show (Finset.univ : Finset (Fin 1)) = {(0 : Fin 1)} from by decide, bigSep_singleton]
  rfl

/-! ## The scratch buffers -/

abbrev scQ : Memref sig .tc .vmem S1024x1 .bf16 := Memref.whole cc0_scratch0
abbrev scD : Memref sig .tc .vmem S512x16 .f32 := Memref.whole cc0_scratch1
abbrev scW : Memref sig .tc .vmem S768x1024 .bf16 := Memref.whole cc0_scratch2

/-- The region's entry invariant: the three scratch buffers at anything, and the generator register. -/
theorem PhiA_eq (c : Dev nD) :
    (Pipeline.ΦA spec0 c : sProp 𝕄)
      = iprop(iprop((∃ d, owns (c : Thread nD τ) scQ fullShare d) ∗ (∃ d, owns (c : Thread nD τ) scD fullShare d)
          ∗ (∃ d, owns (c : Thread nD τ) scW fullShare d)) ∗ (∃ r, prngReg c r)) := by
  unfold Pipeline.ΦA; rw [scopedRest0_eq]; simp only [scQ, scD, scW, owns_whole]; try rfl

/-! ## The windows' blocks -/

/-- Window `w`'s block at point `t`, read off its array as the region finds it. -/
def iblk (c : Dev nD) (w : Fin (cfgM m).W) (t : Fin (cfgM m).N) :
    (((cfgM m).win w).xblock ((cfgM m).grid.coords t)).Idx → Elt F ((cfgM m).win w).elt :=
  (((cfgM m).win w).blk t).view.read (Elt F) (V m c (Pipeline.arrRef spec0 w))

/-- The first point. -/
abbrev t0 : Fin (cfgM m).N := (⟨0, by decide⟩ : Fin grid0.N)

/-- The rows of point `t`. -/
abbrev rowsAt (c : Dev nD) (t : Fin grid0.N) : Vec F S1x1024x768 .f32 := iblk m c 0 t
/-- The arguments that every point sees whole. -/
abbrev wNodes (c : Dev nD) : Vec F S768x1024 .f32 := iblk m c 1 (t0 m)
abbrev bNodes (c : Dev nD) : Vec F S1x1024 .f32 := iblk m c 2 (t0 m)
abbrev query (c : Dev nD) : Vec F S1x1024 .f32 := iblk m c 3 (t0 m)
abbrev wQuery (c : Dev nD) : Vec F S1024x1024 .f32 := iblk m c 4 (t0 m)
abbrev bQuery (c : Dev nD) : Vec F S1x1024 .f32 := iblk m c 5 (t0 m)
abbrev probs (c : Dev nD) : Vec F S1x16 .f32 := iblk m c 6 (t0 m)
abbrev lensRow (c : Dev nD) : Vec F S1x16 .i32 := iblk m c 7 (t0 m)

theorem iblk_1 (c : Dev nD) (t : Fin (cfgM m).N) : iblk m c 1 t = wNodes m c := rfl
theorem iblk_2 (c : Dev nD) (t : Fin (cfgM m).N) : iblk m c 2 t = bNodes m c := rfl
theorem iblk_3 (c : Dev nD) (t : Fin (cfgM m).N) : iblk m c 3 t = query m c := rfl
theorem iblk_4 (c : Dev nD) (t : Fin (cfgM m).N) : iblk m c 4 t = wQuery m c := rfl
theorem iblk_5 (c : Dev nD) (t : Fin (cfgM m).N) : iblk m c 5 t = bQuery m c := rfl
theorem iblk_6 (c : Dev nD) (t : Fin (cfgM m).N) : iblk m c 6 t = probs m c := rfl
theorem iblk_7 (c : Dev nD) (t : Fin (cfgM m).N) : iblk m c 7 t = lensRow m c := rfl

/-! ## What the points leave -/

/-- The query column in the scratch. -/
abbrev qCol (c : Dev nD) : Vec F S1024x1 .bf16 := k0_pay3 (query m c) (wQuery m c) (bQuery m c)
/-- The weights in the scratch. -/
abbrev wCast (c : Dev nD) : Vec F S768x1024 .bf16 := k0_pay4 (wNodes m c)
/-- The table of scores before point `n`, started on `d`. -/
abbrev accAt (c : Dev nD) (d : Vec F S512x16 .f32) (n : ℕ) : Vec F S512x16 .f32 :=
  acc (lens m) (rowsAt m c) (bNodes m c) (qCol m c) (wCast m c) d n
/-- Some table of scores to start on (the contents found there do not matter: `acc_start`). -/
abbrev anyScores : Vec F S512x16 .f32 := constant S512x16 .f32 0x00000000#32
/-- The masked rows that point `t` stores. -/
abbrev rowsLeft (c : Dev nD) (t : Fin grid0.N) : Vec F S1x1024x768 .f32 := rowsOut (lens m) (grid0.coords t) (rowsAt m c t)
/-- The attention weights that the last point stores. -/
abbrev attnLeft (c : Dev nD) : Vec F S16x512 .f32 := k0_pay2 (accAt m c anyScores 8) (probs m c) (lensRow m c)

/-! ## The schedule -/

/-- The first branch is taken at the first point only. -/
theorem isFirst_iff (t : Fin grid0.N) : isFirst (grid0.coords t) ↔ t.val = 0 := by
  have ht : t.val < 8 := t.isLt
  simp only [isFirst, coord_val]
  word_cmp
/-- The second branch is taken at the last point only. -/
theorem isLast_iff (t : Fin grid0.N) : isLast (grid0.coords t) ↔ t.val = 7 := by
  have ht : t.val < 8 := t.isLt
  simp only [isLast, k0_cond2, coord_val]
  word_cmp

/-- The masked rows are written back at every point. -/
theorem flush_rows (t : Fin (cfgM m).N) : ((cfgM m).win 8).flush t = true :=
  (fun t => (Pipeline.Window.flushOf_reads cc0_transform_8 reads0_8 hreads0_8 0 (by decide) (by decide) (Pipeline.Window.sep_of_coord cc0_transform_8 0 0 (fun _ => rfl) (by decide)) (P := 1) (m := 0) (by decide) rfl t).mpr (Nat.mod_one _) : ∀ t : Fin grid0.N, Pipeline.Window.flushOf grid0 true cc0_transform_8 t = true) t
/-- The attention weights are written back at the last point only. -/
theorem flush_attn (t : Fin (cfgM m).N) : ((cfgM m).win 9).flush t = true ↔ t.val % 8 = 7 :=
  (fun t => Pipeline.Window.flushOf_const cc0_transform_9 (fun _ _ => rfl) (n := 8) (by decide) rfl t : ∀ t : Fin grid0.N, Pipeline.Window.flushOf grid0 true cc0_transform_9 t = true ↔ t.val % 8 = 7) t
/-- The attention window is idle at a point that is not the last, -/
theorem idle_attn (t : Fin (cfgM m).N) (h : ¬isLast (grid0.coords t)) : (cfgM m).idle 9 (grid0.coords t) = true := by
  show (!(k0_cond2 (grid0.coords t) == 1#1)) = true
  rw [beq_eq_false_iff_ne.mpr h]; rfl
/-- and in use at the last. -/
theorem live_attn (t : Fin (cfgM m).N) (h : isLast (grid0.coords t)) : (cfgM m).idle 9 (grid0.coords t) = false := by
  show (!(k0_cond2 (grid0.coords t) == 1#1)) = false
  rw [beq_iff_eq.mpr h]; rfl

/-! ## The proof data -/

/-- What the region keeps between points: before the first the scratch at anything; afterwards the query column, the
    scores so far (over whatever they started on) and the weights. -/
def inv (c : Dev nD) : (n : ℕ) → sProp 𝕄
  | 0 => iprop(Pipeline.ΦA spec0 c ∗ Pipeline.ΦT pre0 (tbl m) c)
  | n + 1 => iprop(iprop(iprop(owns (c : Thread nD τ) scQ fullShare (qCol m c)
        ∗ (∃ d, owns (c : Thread nD τ) scD fullShare (accAt m c d (n + 1)))
        ∗ owns (c : Thread nD τ) scW fullShare (wCast m c)) ∗ (∃ r, prngReg c r)) ∗ Pipeline.ΦT pre0 (tbl m) c)

/-- The proof data of the pipeline: the arrays as the region finds them, each input's buffer at its block after the
    body, the results' buffers at what the points leave, nothing owed, full shares. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => rowsLeft m c t
    | ⟨9, _⟩ => attnLeft m c
  Φ t := inv m c t.val
  q _ := fullShare
  owed _ := 0

theorem A_eq (c : Dev nD) (w : Fin (cfgM m).W) : (dats m 0 c).A w = V m c (Pipeline.arrRef spec0 w) := by
  dsimp only [dats]

theorem after_0 (c : Dev nD) (t : Fin (cfgM m).N) : (dats m 0 c).after 0 t = iblk m c 0 t := by dsimp only [dats]; try rfl
theorem after_1 (c : Dev nD) (t : Fin (cfgM m).N) : (dats m 0 c).after 1 t = iblk m c 1 t := by dsimp only [dats]; try rfl
theorem after_2 (c : Dev nD) (t : Fin (cfgM m).N) : (dats m 0 c).after 2 t = iblk m c 2 t := by dsimp only [dats]; try rfl
theorem after_3 (c : Dev nD) (t : Fin (cfgM m).N) : (dats m 0 c).after 3 t = iblk m c 3 t := by dsimp only [dats]; try rfl
theorem after_4 (c : Dev nD) (t : Fin (cfgM m).N) : (dats m 0 c).after 4 t = iblk m c 4 t := by dsimp only [dats]; try rfl
theorem after_5 (c : Dev nD) (t : Fin (cfgM m).N) : (dats m 0 c).after 5 t = iblk m c 5 t := by dsimp only [dats]; try rfl
theorem after_6 (c : Dev nD) (t : Fin (cfgM m).N) : (dats m 0 c).after 6 t = iblk m c 6 t := by dsimp only [dats]; try rfl
theorem after_7 (c : Dev nD) (t : Fin (cfgM m).N) : (dats m 0 c).after 7 t = iblk m c 7 t := by dsimp only [dats]; try rfl
theorem after_8 (c : Dev nD) (t : Fin (cfgM m).N) : (dats m 0 c).after 8 t = rowsLeft m c t := by dsimp only [dats]; try rfl
theorem after_9 (c : Dev nD) (t : Fin (cfgM m).N) : (dats m 0 c).after 9 t = attnLeft m c := by dsimp only [dats]; try rfl

/-- An input's buffer holds its block wherever the body finds it, fetched there or not. -/
theorem before_input (c : Dev nD) (w : Fin (cfgM m).W) (hw : ((cfgM m).win w).isOut = false) (hlive : ∀ i, (cfgM m).idle w i = false)
    (hclip : ∀ t t' : Fin (cfgM m).N, ((cfgM m).win w).index t = ((cfgM m).win w).index t' →
      ((cfgM m).win w).clip ((cfgM m).grid.coords t) = ((cfgM m).win w).clip ((cfgM m).grid.coords t'))
    (hkeep : ∀ t, ((cfgM m).win w).cut ((cfgM m).grid.coords t) ((dats m 0 c).after w t) = iblk m c w t)
    (t : Fin (cfgM m).N) (d) : (dats m 0 c).before w t d = ((cfgM m).win w).fill ((cfgM m).grid.coords t) d (iblk m c w t) :=
  (dats m 0 c).before_in_eq_fetched w hw hlive hclip (fun t => (hkeep t).trans (by unfold Dat.blockOf iblk; rw [A_eq])) t d |>.trans
    (by unfold Dat.fetched Dat.blockOf iblk; rw [A_eq])

theorem before_0 (c : Dev nD) (t : Fin (cfgM m).N) (d) : (dats m 0 c).before 0 t d = iblk m c 0 t :=
  (before_input m c 0 rfl (fun _ => rfl) (fun _ _ _ => rfl) (fun t => by rw [after_0]) t d).trans rfl
theorem before_1 (c : Dev nD) (t : Fin (cfgM m).N) (d) : (dats m 0 c).before 1 t d = iblk m c 1 t :=
  (before_input m c 1 rfl (fun _ => rfl) (fun _ _ _ => rfl) (fun t => by rw [after_1]) t d).trans rfl
theorem before_2 (c : Dev nD) (t : Fin (cfgM m).N) (d) : (dats m 0 c).before 2 t d = iblk m c 2 t :=
  (before_input m c 2 rfl (fun _ => rfl) (fun _ _ _ => rfl) (fun t => by rw [after_2]) t d).trans rfl
theorem before_3 (c : Dev nD) (t : Fin (cfgM m).N) (d) : (dats m 0 c).before 3 t d = iblk m c 3 t :=
  (before_input m c 3 rfl (fun _ => rfl) (fun _ _ _ => rfl) (fun t => by rw [after_3]) t d).trans rfl
theorem before_4 (c : Dev nD) (t : Fin (cfgM m).N) (d) : (dats m 0 c).before 4 t d = iblk m c 4 t :=
  (before_input m c 4 rfl (fun _ => rfl) (fun _ _ _ => rfl) (fun t => by rw [after_4]) t d).trans rfl
theorem before_5 (c : Dev nD) (t : Fin (cfgM m).N) (d) : (dats m 0 c).before 5 t d = iblk m c 5 t :=
  (before_input m c 5 rfl (fun _ => rfl) (fun _ _ _ => rfl) (fun t => by rw [after_5]) t d).trans rfl
theorem before_6 (c : Dev nD) (t : Fin (cfgM m).N) (d) : (dats m 0 c).before 6 t d = iblk m c 6 t :=
  (before_input m c 6 rfl (fun _ => rfl) (fun _ _ _ => rfl) (fun t => by rw [after_6]) t d).trans rfl
theorem before_7 (c : Dev nD) (t : Fin (cfgM m).N) (d) : (dats m 0 c).before 7 t d = iblk m c 7 t :=
  (before_input m c 7 rfl (fun _ => rfl) (fun _ _ _ => rfl) (fun t => by rw [after_7]) t d).trans rfl

end Cert.KernelIdeal.Work

end
-- ==== Proof.KernelIdeal.Points.lean ====
/- The body's obligation at every grid point: from what the pipeline hands it to what the proof data say it leaves. -/
module

public import proofs.«01_k».proof.Proof.KernelIdeal.Setup

@[expose] public section

set_option maxRecDepth 16384

noncomputable section

namespace Cert.KernelIdeal.Work

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The staging buffers -/

abbrev ms0 (t : Fin (cfgM m).N) := spec0_0.stage ((cfgM m).slots t 0)
abbrev ms1 (t : Fin (cfgM m).N) := spec0_1.stage ((cfgM m).slots t 1)
abbrev ms2 (t : Fin (cfgM m).N) := spec0_2.stage ((cfgM m).slots t 2)
abbrev ms3 (t : Fin (cfgM m).N) := spec0_3.stage ((cfgM m).slots t 3)
abbrev ms4 (t : Fin (cfgM m).N) := spec0_4.stage ((cfgM m).slots t 4)
abbrev ms5 (t : Fin (cfgM m).N) := spec0_5.stage ((cfgM m).slots t 5)
abbrev ms6 (t : Fin (cfgM m).N) := spec0_6.stage ((cfgM m).slots t 6)
abbrev ms7 (t : Fin (cfgM m).N) := spec0_7.stage ((cfgM m).slots t 7)
abbrev ms8 (t : Fin (cfgM m).N) := spec0_8.stage ((cfgM m).slots t 8)
abbrev ms9 (t : Fin (cfgM m).N) := spec0_9.stage ((cfgM m).slots t 9)

/-- The body as the pipeline calls it at point `t`. -/
abbrev bodyAt (t : Fin (cfgM m).N) : Prog (TpuEff nD τ sig (Elt F) Λ₀ .tc) PUnit :=
  bodyOn (grid0.coords t) (ms0 m t) (hstage0_0 (((cfgM m).slots t 0).cast nbuf0_0)) (ms1 m t) (hstage0_1 (((cfgM m).slots t 1).cast nbuf0_1))
    (ms2 m t) (hstage0_2 (((cfgM m).slots t 2).cast nbuf0_2)) (ms3 m t) (hstage0_3 (((cfgM m).slots t 3).cast nbuf0_3))
    (ms4 m t) (hstage0_4 (((cfgM m).slots t 4).cast nbuf0_4)) (ms5 m t) (hstage0_5 (((cfgM m).slots t 5).cast nbuf0_5))
    (ms6 m t) (hstage0_6 (((cfgM m).slots t 6).cast nbuf0_6)) (ms7 m t) (hstage0_7 (((cfgM m).slots t 7).cast nbuf0_7))
    (ms8 m t) (hstage0_8 (((cfgM m).slots t 8).cast nbuf0_8)) (ms9 m t) (hstage0_9 (((cfgM m).slots t 9).cast nbuf0_9))
    scQ (Memref.isWhole_whole _) scD (Memref.isWhole_whole _) scW (Memref.isWhole_whole _)

theorem body_row (t : Fin (cfgM m).N) :
    defs₀ (F := F) .tc (cfgM m).body ((cfgM m).bodyArgs t ((cfgM m).slots t)) = bodyAt m t := by
  unfold defs₀; rw [Defs.onTc_tc]

/-- The input windows' buffers at their blocks. -/
abbrev inBufs (c : Dev nD) (t : Fin (cfgM m).N) : sProp 𝕄 :=
  inputs c (ms0 m t) (ms1 m t) (ms2 m t) (ms3 m t) (ms4 m t) (ms5 m t) (ms6 m t) (ms7 m t) (rowsAt m c t) (wNodes m c) (bNodes m c)
    (query m c) (wQuery m c) (bQuery m c) (probs m c) (lensRow m c) (lens m)

/-- What the pipeline hands the body at point `t`, window by window, -/
def handed (c : Dev nD) (t : Fin (cfgM m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d))
    ∗ (∃ d, owns (c : Thread nD τ) (ms3 m t) fullShare ((dats m 0 c).before 3 t d))
    ∗ (∃ d, owns (c : Thread nD τ) (ms4 m t) fullShare ((dats m 0 c).before 4 t d))
    ∗ (∃ d, owns (c : Thread nD τ) (ms5 m t) fullShare ((dats m 0 c).before 5 t d))
    ∗ (∃ d, owns (c : Thread nD τ) (ms6 m t) fullShare ((dats m 0 c).before 6 t d))
    ∗ (∃ d, owns (c : Thread nD τ) (ms7 m t) fullShare ((dats m 0 c).before 7 t d))
    ∗ (∃ d, owns (c : Thread nD τ) (ms8 m t) fullShare ((dats m 0 c).before 8 t d))
    ∗ (∃ d, owns (c : Thread nD τ) (ms9 m t) fullShare ((dats m 0 c).before 9 t d)))

/-- and what it takes back. -/
def returned (c : Dev nD) (t : Fin (cfgM m).N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t ∗ (dats m 0 c).leavesExact 7 t
    ∗ (dats m 0 c).leavesExact 8 t ∗ (dats m 0 c).leavesExact 9 t)

/-- A window in use at point `t` is left at what the proof data name. -/
theorem leaves_live (c : Dev nD) (w : Fin (cfgM m).W) (t : Fin (cfgM m).N) (h : (cfgM m).idle w ((cfgM m).grid.coords t) = false) :
    (dats m 0 c).leavesExact w t = owns (c : Thread nD τ) (((cfgM m).win w).stage ((cfgM m).slots t w)) fullShare ((dats m 0 c).after w t) := by
  unfold Dat.leavesExact; rw [h]

/-- The invariant before point `t`, as the body is handed it: the scratch split off the generator register and the table. -/
theorem inv_castSucc (c : Dev nD) (t : Fin (cfgM m).N) : (dats m 0 c).Φ t.castSucc = inv m c t.val := rfl
theorem inv_after (c : Dev nD) (t : Fin (cfgM m).N) : (dats m 0 c).Φ t.succ = inv m c (t.val + 1) := rfl

theorem leaves_0 (c : Dev nD) (t : Fin (cfgM m).N) : (dats m 0 c).leavesExact 0 t = owns (c : Thread nD τ) (ms0 m t) fullShare (rowsAt m c t) :=
  (leaves_live m c 0 t rfl).trans (by rw [after_0]; rfl)
theorem leaves_1 (c : Dev nD) (t : Fin (cfgM m).N) : (dats m 0 c).leavesExact 1 t = owns (c : Thread nD τ) (ms1 m t) fullShare (wNodes m c) :=
  (leaves_live m c 1 t rfl).trans (by rw [after_1]; rfl)
theorem leaves_2 (c : Dev nD) (t : Fin (cfgM m).N) : (dats m 0 c).leavesExact 2 t = owns (c : Thread nD τ) (ms2 m t) fullShare (bNodes m c) :=
  (leaves_live m c 2 t rfl).trans (by rw [after_2]; rfl)
theorem leaves_3 (c : Dev nD) (t : Fin (cfgM m).N) : (dats m 0 c).leavesExact 3 t = owns (c : Thread nD τ) (ms3 m t) fullShare (query m c) :=
  (leaves_live m c 3 t rfl).trans (by rw [after_3]; rfl)
theorem leaves_4 (c : Dev nD) (t : Fin (cfgM m).N) : (dats m 0 c).leavesExact 4 t = owns (c : Thread nD τ) (ms4 m t) fullShare (wQuery m c) :=
  (leaves_live m c 4 t rfl).trans (by rw [after_4]; rfl)
theorem leaves_5 (c : Dev nD) (t : Fin (cfgM m).N) : (dats m 0 c).leavesExact 5 t = owns (c : Thread nD τ) (ms5 m t) fullShare (bQuery m c) :=
  (leaves_live m c 5 t rfl).trans (by rw [after_5]; rfl)
theorem leaves_6 (c : Dev nD) (t : Fin (cfgM m).N) : (dats m 0 c).leavesExact 6 t = owns (c : Thread nD τ) (ms6 m t) fullShare (probs m c) :=
  (leaves_live m c 6 t rfl).trans (by rw [after_6]; rfl)
theorem leaves_7 (c : Dev nD) (t : Fin (cfgM m).N) : (dats m 0 c).leavesExact 7 t = owns (c : Thread nD τ) (ms7 m t) fullShare (lensRow m c) :=
  (leaves_live m c 7 t rfl).trans (by rw [after_7]; rfl)
theorem leaves_8 (c : Dev nD) (t : Fin (cfgM m).N) : (dats m 0 c).leavesExact 8 t = owns (c : Thread nD τ) (ms8 m t) fullShare (rowsLeft m c t) :=
  (leaves_live m c 8 t rfl).trans (by rw [after_8]; rfl)
/-- Before the last point the attention window's buffer goes back as it came, -/
theorem leaves_9_idle (c : Dev nD) (t : Fin (cfgM m).N) (h : ¬isLast (grid0.coords t)) (h7 : t.val ≠ 7) :
    (dats m 0 c).leavesExact 9 t = iprop(∃ d, owns (c : Thread nD τ) (ms9 m t) fullShare ((dats m 0 c).before 9 t d)) :=
  Dat.leavesExact_idle _ 9 t (idle_attn m t h) (Bool.eq_false_iff.mpr fun e => h7 (by
    have := (flush_attn m t).mp e; have ht : t.val < 8 := t.isLt; omega))
/-- at the last it holds the attention weights. -/
theorem leaves_9_last (c : Dev nD) (t : Fin (cfgM m).N) (h : isLast (grid0.coords t)) :
    (dats m 0 c).leavesExact 9 t = owns (c : Thread nD τ) (ms9 m t) fullShare (attnLeft m c) :=
  (leaves_live m c 9 t (live_attn m t h)).trans (by rw [after_9]; rfl)

/-- The scores one point on. -/
theorem accAt_succ (c : Dev nD) (d : Vec F S512x16 .f32) (t : Fin grid0.N) :
    accAt m c d (t.val + 1) = scores (lens m) (grid0.coords t) (rowsAt m c t) (bNodes m c) (qCol m c) (wCast m c) (accAt m c d t.val) :=
  acc_succ _ _ _ _ _ _ t

/-- What the last point's run stores is the attention weights of the proof data, whatever the scores started on. -/
theorem attn_last (c : Dev nD) (t : Fin (cfgM m).N) (d : Vec F S512x16 .f32) (k : ℕ) (hk : t.val = k + 1) (h7 : t.val = 7) :
    (owns (c : Thread nD τ) (ms9 m t) fullShare (k0_pay2 (scores (lens m) (grid0.coords t) (rowsAt m c t) (bNodes m c) (qCol m c) (wCast m c)
        (accAt m c d (k + 1))) (probs m c) (lensRow m c)) : sProp 𝕄)
      ⊢ owns (c : Thread nD τ) (ms9 m t) fullShare (attnLeft m c) := by
  have e : accAt m c anyScores 8 = scores (lens m) (grid0.coords t) (rowsAt m c t) (bNodes m c) (qCol m c) (wCast m c) (accAt m c d (k + 1)) := by
    rw [← hk, ← accAt_succ, h7]; exact acc_start _ _ _ _ _ _ _
  unfold attnLeft; rw [e]

/-- The invariant before the first point: the scratch at anything, -/
theorem inv_zero (c : Dev nD) : (inv m c 0 : sProp 𝕄)
    = iprop(iprop(iprop((∃ d, owns (c : Thread nD τ) scQ fullShare d) ∗ (∃ d, owns (c : Thread nD τ) scD fullShare d)
          ∗ (∃ d, owns (c : Thread nD τ) scW fullShare d)) ∗ (∃ r, prngReg c r)) ∗ tabPt c (lens m)) := by
  show iprop(Pipeline.ΦA spec0 c ∗ Pipeline.ΦT pre0 (tbl m) c) = _
  rw [PhiA_eq, PhiT_eq]
/-- and after `n + 1` points: the scratch at the query column, the scores so far and the weights. -/
theorem inv_succ (c : Dev nD) (n : ℕ) : (inv m c (n + 1) : sProp 𝕄)
    = iprop(iprop(iprop(owns (c : Thread nD τ) scQ fullShare (qCol m c)
        ∗ (∃ d, owns (c : Thread nD τ) scD fullShare (accAt m c d (n + 1)))
        ∗ owns (c : Thread nD τ) scW fullShare (wCast m c)) ∗ (∃ r, prngReg c r)) ∗ tabPt c (lens m)) := by
  rw [← PhiT_eq]; rfl

set_option maxHeartbeats 4000000 in
/-- The body at any point: the case of its branches is decided by the point's number, and the run of that case takes what
    the pipeline hands over to what it takes back. -/
theorem sound_body (c : Dev nD) (t : Fin (cfgM m).N) :
    handed m c t ⊢ wp frame (wpE (defs₀ (F := F)) Variants.none c none) Set.univ (bodyAt m t) (fun _ => returned m c t) := by
  unfold handed returned
  simp only [before_0, before_1, before_2, before_3, before_4, before_5, before_6, before_7, iblk_1, iblk_2, iblk_3, iblk_4, iblk_5,
    iblk_6, iblk_7]
  rw [leaves_0 m c t, leaves_1 m c t, leaves_2 m c t, leaves_3 m c t, leaves_4 m c t, leaves_5 m c t, leaves_6 m c t, leaves_7 m c t,
    leaves_8 m c t, show (dats m 0 c).owesAt () t.succ = (dats m 0 c).owesAt () t.castSucc from rfl, inv_castSucc, inv_after, inv_succ]
  simp only [accAt_succ m c _ t]
  have hN : t.val < 8 := t.isLt
  by_cases h0 : t.val = 0
  · have hf := (isFirst_iff t).mpr h0
    have hl : ¬isLast (grid0.coords t) := fun h => by have := (isLast_iff t).mp h; omega
    rw [leaves_9_idle m c t hl (by omega), h0, inv_zero]
    iintro ⟨⟨⟨⟨HQ, ⟨%d, HD⟩, HW⟩, Hg⟩, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9⟩
    iapply (run_first c (grid0.coords t) (ms0 m t) _ (ms1 m t) _ (ms2 m t) _ (ms3 m t) _ (ms4 m t) _ (ms5 m t) _ (ms6 m t) _ (ms7 m t) _
      (ms8 m t) _ (ms9 m t) _ scQ _ scD _ scW _ (rowsAt m c t) (wNodes m c) (bNodes m c) (query m c) (wQuery m c) (bQuery m c) (probs m c)
      (lensRow m c) (lens m) hf hl d Set.univ _)
    isplitl [H0 H1 H2 H3 H4 H5 H6 H7 HT]
    · unfold inputs; iframe
    isplitl [H8]
    · iexists _; iexact H8
    isplitl [HQ]
    · iexact HQ
    isplitl [HD]
    · iexact HD
    isplitl [HW]
    · iexact HW
    iintro ⟨⟨H0, H1, H2, H3, H4, H5, H6, H7, HT⟩, H8, HQ, HD, HW⟩
    isplitl [HD HQ HW Hg HT]
    · isplitl [HD HQ HW Hg]
      · isplitl [HD HQ HW]
        · isplitl [HQ]
          · iexact HQ
          isplitl [HD]
          · iexists d; iexact HD
          iexact HW
        iexact Hg
      iexact HT
    iframe
  have hf : ¬isFirst (grid0.coords t) := fun h => h0 ((isFirst_iff t).mp h)
  obtain ⟨k, hk⟩ : ∃ k, t.val = k + 1 := ⟨t.val - 1, by omega⟩
  rw [hk, inv_succ]
  by_cases h7 : t.val = 7
  · have hl := (isLast_iff t).mpr h7
    rw [leaves_9_last m c t hl]
    iintro ⟨⟨⟨⟨HQ, ⟨%d, HD⟩, HW⟩, Hg⟩, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run_last c (grid0.coords t) (ms0 m t) _ (ms1 m t) _ (ms2 m t) _ (ms3 m t) _ (ms4 m t) _ (ms5 m t) _ (ms6 m t) _ (ms7 m t) _
      (ms8 m t) _ (ms9 m t) _ scQ _ scD _ scW _ (rowsAt m c t) (wNodes m c) (bNodes m c) (query m c) (wQuery m c) (bQuery m c) (probs m c)
      (lensRow m c) (lens m) hf hl (qCol m c) (accAt m c d (k + 1)) (wCast m c) Set.univ _)
    isplitl [H0 H1 H2 H3 H4 H5 H6 H7 HT]
    · unfold inputs; iframe
    isplitl [H8]
    · iexists _; iexact H8
    isplitl [H9]
    · iexists _; iexact H9
    isplitl [HQ]
    · iexact HQ
    isplitl [HD]
    · iexact HD
    isplitl [HW]
    · iexact HW
    iintro ⟨⟨H0, H1, H2, H3, H4, H5, H6, H7, HT⟩, H8, H9, HQ, HD, HW⟩
    ihave H9 := (attn_last m c t d k hk h7) $$ H9
    isplitl [HD HQ HW Hg HT]
    · isplitl [HD HQ HW Hg]
      · isplitl [HD HQ HW]
        · isplitl [HQ]
          · iexact HQ
          isplitl [HD]
          · iexists d; iexact HD
          iexact HW
        iexact Hg
      iexact HT
    iframe
  have hl : ¬isLast (grid0.coords t) := fun h => h7 ((isLast_iff t).mp h)
  rw [leaves_9_idle m c t hl h7]
  iintro ⟨⟨⟨⟨HQ, ⟨%d, HD⟩, HW⟩, Hg⟩, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9⟩
  iapply (run_mid c (grid0.coords t) (ms0 m t) _ (ms1 m t) _ (ms2 m t) _ (ms3 m t) _ (ms4 m t) _ (ms5 m t) _ (ms6 m t) _ (ms7 m t) _
    (ms8 m t) _ (ms9 m t) _ scQ _ scD _ scW _ (rowsAt m c t) (wNodes m c) (bNodes m c) (query m c) (wQuery m c) (bQuery m c) (probs m c)
    (lensRow m c) (lens m) hf hl (qCol m c) (accAt m c d (k + 1)) (wCast m c) Set.univ _)
  isplitl [H0 H1 H2 H3 H4 H5 H6 H7 HT]
  · unfold inputs; iframe
  isplitl [H8]
  · iexists _; iexact H8
  isplitl [HQ]
  · iexact HQ
  isplitl [HD]
  · iexact HD
  isplitl [HW]
  · iexact HW
  iintro ⟨⟨H0, H1, H2, H3, H4, H5, H6, H7, HT⟩, H8, HQ, HD, HW⟩
  isplitl [HD HQ HW Hg HT]
  · isplitl [HD HQ HW Hg]
    · isplitl [HD HQ HW]
      · isplitl [HQ]
        · iexact HQ
        isplitl [HD]
        · iexists d; iexact HD
        iexact HW
      iexact Hg
    iexact HT
  iframe

/-- The pipeline's obligation of its body. -/
theorem body_obligation (c : Dev nD) : BodyObligation (dats (F := F) m 0 c) (defs₀ (F := F)) Variants.none () Set.univ := fun t => by
  rw [bigSep_W0, bigSep_W0, body_row m]
  exact triple_restated (sound_body m c t) rfl .rfl fun _ => .rfl

end Cert.KernelIdeal.Work

end
-- ==== Proof.KernelIdeal.Run.lean ====
/- The run of the whole program: it ends with the arguments unchanged, every counter at zero, and its two results the
   reshapes of what the region leaves. -/
module

public import proofs.«01_k».proof.Proof.KernelIdeal.Points

@[expose] public section

set_option maxRecDepth 16384

noncomputable section

namespace Cert.KernelIdeal.Work

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the launch hands the region is the invariant before the first point. -/
theorem inv_in (c : Dev nD) : iprop(Pipeline.ΦA spec0 c ∗ Pipeline.ΦT pre0 (tbl m) c) ⊢ (dats m 0 c).Φ 0 := .rfl

/-- After the last point the scratch's contents are forgotten. -/
theorem inv_out (c : Dev nD) : (dats m 0 c).Φ (Fin.last (cfgM m).N) ⊢ Pipeline.ΦA spec0 c := by
  rw [show (dats m 0 c).Φ (Fin.last (cfgM m).N) = inv m c (7 + 1) from rfl, inv_succ, PhiA_eq]
  iintro ⟨⟨⟨HQ, ⟨%d, HD⟩, HW⟩, Hg⟩, -⟩
  isplitl [HQ HD HW]
  · isplitl [HQ]
    · iexists _; iexact HQ
    isplitl [HD]
    · iexists _; iexact HD
    iexists _; iexact HW
  iexact Hg

/-- The two reshapes after the region touch no table, -/
theorem tail_sub : ∀ ops ∈ ([hostOps1] : List (List (HloOp τ sig (Elt F)))), ∀ op ∈ ops, op.bufs ⊆ Pipeline.tailRefs (τ := τ) sig pre0 spec0 := by
  intro ops hops op hop
  obtain rfl := List.mem_singleton.mp hops
  refine Pipeline.sub_tailRefs pre0 spec0 op (List.forall_iff_forall_mem.mp hostOps1_sub op hop) fun k hk => ?_
  fin_cases k
  revert hk
  simp only [hostOps1, List.mem_cons, List.not_mem_nil, or_false] at hop
  rcases hop with rfl | rfl
  all_goals
    simp only [StableHlo.reshape_bufs, Finset.mem_insert, Finset.mem_singleton]
    rintro (h | h)
    · exact StableHlo.devRef_ne_of_ne (by decide) h
    · exact StableHlo.devRef_ne_of_ne (by decide) h
/-- allocate nothing, -/
theorem tail_fresh : ∀ ops ∈ ([hostOps1] : List (List (HloOp τ sig (Elt F)))), ∀ op ∈ ops, op.fresh = ∅ := by
  intro ops hops op hop
  obtain rfl := List.mem_singleton.mp hops
  simp only [hostOps1, List.mem_cons, List.not_mem_nil, or_false] at hop
  rcases hop with rfl | rfl <;> rfl
/-- and write none of the region's arrays. -/
theorem tail_keep : ∀ ops ∈ ([hostOps1] : List (List (HloOp τ sig (Elt F)))), ∀ op ∈ ops, ∀ w : Fin 10,
    Proc.devRef (τ := τ) .tc (Pipeline.arrRef spec0 w) ∉ op.writes := by
  intro ops hops op hop w
  obtain rfl := List.mem_singleton.mp hops
  simp only [hostOps1, List.mem_cons, List.not_mem_nil, or_false] at hop
  rcases hop with rfl | rfl
  all_goals
    simp only [StableHlo.reshape_writes, Finset.mem_singleton]
    exact StableHlo.devRef_ne_of_ne (by revert w; decide)

/-- What every buffer outside the region holds at the end. -/
abbrev Vend (c : Dev nD) (b : Ref sig .tc) : Buf (Elt F) ((c : Thread nD τ).loc b) :=
  Pipeline.afterTail pcfgs (fun _ => adm m) (dats m) 0 (V₀ m) [hostOps1] c b

-- the theorem's implicit arguments are found by unifying its conclusion with this one, which takes unfolding plain definitions in types
set_option backward.isDefEq.respectTransparency.types false in
/-- The run of `main`: the region's arrays end at what the proof data say, the other buffers at `Vend`, every counter at zero. -/
theorem run_main : θ_run defs (onTc (τ := τ) (main (F := F))) (s₀ m ρ)
    (fun r => Pipeline.FramePost (Pipeline.pin pcfgs fun _ => adm m) (dats m) 0 (Vend m) r ∧ r.2.sem = fun _ => 0) :=
  Pipeline.θ_run_frameP_around_track pcfgs (fun _ => adm m) (dats m) (0 : Fin 1) launch0 defs₀ Variants.none m ρ main
    (hbody := fun c => (body_obligation m c).loose) (hshare := fun c => (dats m 0 c).share_full fun _ => rfl)
    (howed := fun _ _ => rfl) (V₀ := V₀ m) (opss := [hostOps1]) (hsub := tail_sub) (hfresh := tail_fresh) (hkeep := tail_keep)
    (hmain := main_around m Variants.none) (hA := A_eq m) (hpf := V_pre m) (hin := inv_in m) (hout := inv_out m) (Q' := _)
    (hQ' := fun _ h => h)

/-- A buffer that no reshape writes and no window names ends as it was at the launch. -/
theorem Vend_of_rest (c : Dev nD) (b : Ref sig .tc) (h5 : b ≠ main_v5) (h6 : b ≠ main_v6) (hw : ∀ w, Pipeline.arrRef spec0 w ≠ b) :
    Vend m c b = V m c b := by
  unfold Vend Pipeline.afterTail
  rw [StableHlo.after_of_forall_not_mem]
  · exact Pipeline.withArrays_of_ne _ _ _ _ _ hw
  · refine List.forall_iff_forall_mem.mp ?_
    simp only [hostOps1, List.flatten_cons, List.flatten_nil, List.append_nil, List.Forall, StableHlo.reshape_writes, Finset.mem_singleton]
    exact ⟨StableHlo.devRef_ne_of_ne h5, StableHlo.devRef_ne_of_ne h6⟩

/-- The array of the attention weights after the region, -/
abbrev attnArr (c : Dev nD) : Vec F S16x512 .f32 := (dats m 0 c).arrAt 9 8
/-- and the array of the masked rows. -/
abbrev rowsArr (c : Dev nD) : Vec F S8x1024x768 .f32 := (dats m 0 c).arrAt 8 8

/-- The first result is the reshape of the attention weights' array. -/
theorem Vend_v5 (c : Dev nD) : Vend m c main_v5 = shapeCast S16x512x1 (attnArr m c) shapeCasts_S16x512_S16x512x1 := by
  have e : Pipeline.withArrays spec0 c (V₀ m c) (fun w => (dats m 0 c).arrAt w 8) (Proc.devRef .tc main_v4_1) = attnArr m c :=
    Pipeline.withArrays_arr spec0 (launch0 (F := F)).win.arr_inj c (V₀ m c) (fun w => (dats m 0 c).arrAt w 8) 9
  show StableHlo.after [_, _] _ _ = _
  rw [StableHlo.after_cons, StableHlo.after_cons, StableHlo.after_nil, HloOp.result_of_not_mem]
  · rw [StableHlo.reshape_result]
    exact congrArg (fun a => shapeCast S16x512x1 a shapeCasts_S16x512_S16x512x1) e
  · rw [StableHlo.reshape_writes, Finset.mem_singleton]; exact StableHlo.devRef_ne_of_ne (by decide)

/-- The second result is the reshape of the masked rows' array. -/
theorem Vend_v6 (c : Dev nD) : Vend m c main_v6 = shapeCast S16x512x768 (rowsArr m c) shapeCasts_S8x1024x768_S16x512x768 := by
  have e : Pipeline.withArrays spec0 c (V₀ m c) (fun w => (dats m 0 c).arrAt w 8) (Proc.devRef .tc main_v4_0) = rowsArr m c :=
    Pipeline.withArrays_arr spec0 (launch0 (F := F)).win.arr_inj c (V₀ m c) (fun w => (dats m 0 c).arrAt w 8) 8
  show StableHlo.after [_, _] _ _ = _
  rw [StableHlo.after_cons, StableHlo.after_cons, StableHlo.after_nil, StableHlo.reshape_result, HloOp.result_of_not_mem]
  · exact congrArg (fun a => shapeCast S16x512x768 a shapeCasts_S8x1024x768_S16x512x768) e
  · rw [StableHlo.reshape_writes, Finset.mem_singleton]; exact StableHlo.devRef_ne_of_ne (by decide)

/-- At the end of the run the arguments are unchanged and the results are the reshapes of the region's two arrays. -/
theorem ends (r : PUnit × MemSt nD τ sig (Elt F))
    (h : Pipeline.FramePost (Pipeline.pin pcfgs fun _ => adm m) (dats m) 0 (Vend m) r) (c : Dev nD) :
    r.2.mem ((c.tc : Thread nD τ).loc main_v5) = shapeCast S16x512x1 (attnArr m c) shapeCasts_S16x512_S16x512x1
      ∧ r.2.mem ((c.tc : Thread nD τ).loc main_v6) = shapeCast S16x512x768 (rowsArr m c) shapeCasts_S8x1024x768_S16x512x768
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  have win : ∀ w : Fin 10, ((cfgM m).win w).isOut = false → Pipeline.arrRef spec0 w ∉ [main_v0, main_v1, main_v2, main_v3] →
      r.2.mem ((c.tc : Thread nD τ).loc (Pipeline.arrRef spec0 w)) = m ((c.tc : Thread nD τ).loc (Pipeline.arrRef spec0 w)) := fun w hw hn => by
    simp only [List.mem_cons, List.not_mem_nil, or_false, not_or] at hn
    exact ((h c).1 w).trans (((dats m 0 c).arrAt_in w hw _).trans ((A_eq m c w).trans (V_of_not_written m c _ hn.1 hn.2.1 hn.2.2.1 hn.2.2.2)))
  have rest : ∀ b : Ref sig .tc, b ∈ Pipeline.restRefs sig spec0 → b ∉ [main_v5, main_v6, main_v0, main_v1, main_v2, main_v3] →
      r.2.mem ((c.tc : Thread nD τ).loc b) = m ((c.tc : Thread nD τ).loc b) := fun b hb hn => by
    simp only [List.mem_cons, List.not_mem_nil, or_false, not_or] at hn
    refine ((h c).2 b hb).trans ((Vend_of_rest m c b hn.1 hn.2.1 fun w e => ?_).trans
      (V_of_not_written m c b hn.2.2.1 hn.2.2.2.1 hn.2.2.2.2.1 hn.2.2.2.2.2))
    exact (Finset.mem_sdiff.mp hb).2 (Finset.mem_image.mpr ⟨w, Finset.mem_univ _, e⟩)
  exact ⟨((h c).2 main_v5 (by decide : main_v5 ∈ Pipeline.restRefs sig spec0)).trans (Vend_v5 m c), ((h c).2 main_v6 (by decide : main_v6 ∈ Pipeline.restRefs sig spec0)).trans (Vend_v6 m c),
    win 3 rfl (by decide), rest main_arg1 (by decide) (by decide), win 6 rfl (by decide), rest main_arg3 (by decide) (by decide),
    win 1 rfl (by decide), rest main_arg5 (by decide) (by decide), win 4 rfl (by decide), rest main_arg7 (by decide) (by decide)⟩

/-- The run with the results named. -/
theorem run_values : θ_run defs (onTc (τ := τ) (main (F := F))) ⟨m, fun _ => 0, ρ⟩ (fun r => ∀ c : Dev nD,
    r.2.mem ((c.tc : Thread nD τ).loc main_v5) = shapeCast S16x512x1 (attnArr m c) shapeCasts_S16x512_S16x512x1
      ∧ r.2.mem ((c.tc : Thread nD τ).loc main_v6) = shapeCast S16x512x768 (rowsArr m c) shapeCasts_S8x1024x768_S16x512x768
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ends m r h.1 c) (run_main m ρ)

/-- The frame: every run ends with the arguments unchanged and every counter at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c => (ends m r h.1 c).2.2, h.2⟩) (run_main m ρ)

end Cert.KernelIdeal.Work

end
-- ==== Proof.KernelIdeal.Arrays.lean ====
/- What the windows' blocks are of the arguments, and what the two result arrays hold after the run. -/
module

public import proofs.«01_k».proof.Proof.KernelIdeal.Run

@[expose] public section

noncomputable section

namespace Cert.KernelIdeal.Work

open Idealize.ShloMosaic Idealize.ShloMosaic.TcCoe
open Idealize.SL Idealize.SL.Sem
open Idealize.ShloMosaic.Pipeline (Dat Cfg Window)
open Cert.KernelIdeal.Gen

variable {F : FTy → Type} [FloatOps F]
variable (m : (ℓ : Loc nD τ sig) → Buf (Elt F) ℓ)

/-! ## Where a block's elements lie in its array -/

/-- The block of rows at point `t` is slab `t` of the rows. -/
theorem emb_rowsIn (t : Fin grid0.N) (y : S1x1024x768.Idx) :
    (((cfgM m).win 0).blk t).view.emb y = (ix3 ⟨t.val, t.isLt⟩ (y 1) (y 2) : S8x1024x768.Idx) := by
  have ht : t.val < 8 := t.isLt
  have h0 : (y 0).val < 1 := (y 0).isLt
  funext a
  apply Fin.ext
  refine (((cfgM m).win 0).rect_emb_val t y a).trans ?_
  fin_cases a
  · show (BitVec.ofNat 32 (grid0.coords t 0).val).toNat * 1 + (y 0).val = t.val
    rw [coord_val, BitVec.toNat_ofNat]; omega
  · show 0 * 1024 + (y 1).val = (y 1).val
    omega
  · show 0 * 768 + (y 2).val = (y 2).val
    omega

/-- The block of masked rows that point `t` writes back is slab `t` of their array. -/
theorem emb_rowsOut (t : Fin grid0.N) (y : S1x1024x768.Idx) :
    (((cfgM m).win 8).blk t).view.emb y = (ix3 ⟨t.val, t.isLt⟩ (y 1) (y 2) : S8x1024x768.Idx) :=
  emb_rowsIn m t y

/-- The attention weights' one block is their array. -/
theorem emb_attn (t : Fin grid0.N) (y : S16x512.Idx) : (((cfgM m).win 9).blk t).view.emb y = y := by
  funext a
  apply Fin.ext
  refine ((cfgM m).win 9).rect_emb_val_of_index_zero t a ?_ y
  fin_cases a <;> rfl

/-! ## The result arrays -/

/-- The masked rows' array after the run: slab `t` is what point `t` left. -/
def rowsEnd (c : Dev nD) : Vec F S8x1024x768 .f32 :=
  fun i => rowsLeft m c ⟨(i 0).val, (i 0).isLt⟩ (ix3 0 (i 1) (i 2))

/-- Read at slab `t`. -/
theorem rowsEnd_at (c : Dev nD) (t : Fin grid0.N) (y : S1x1024x768.Idx) :
    rowsEnd m c (ix3 ⟨t.val, t.isLt⟩ (y 1) (y 2)) = rowsLeft m c t y := by
  have hy : (ix3 0 (y 1) (y 2) : S1x1024x768.Idx) = y := by
    funext a
    fin_cases a
    · exact (Fin.eq_zero (y 0)).symm
    · rfl
    · rfl
  exact congrArg (rowsLeft m c t) hy

/-- What point `t` writes back is its slab of that array. -/
theorem flushed_rows (c : Dev nD) (t : Fin grid0.N) :
    (dats m 0 c).flushed 8 t = (((cfgM m).win 8).blk t).view.read (Elt F) (rowsEnd m c) := by
  funext y
  exact (congrFun (after_8 m c t) y).trans
    ((rowsEnd_at m c t y).symm.trans (congrArg (rowsEnd m c) (emb_rowsOut m t y).symm))

/-- Every index of the rows' array lies in some point's slab. -/
theorem covered_rows (i : S8x1024x768.Idx) :
    ∃ t : Fin grid0.N, ((cfgM m).win 8).flush t = true ∧ i ∈ (((cfgM m).win 8).blk t).view.set := by
  let t : Fin grid0.N := ⟨(i 0).val, (i 0).isLt⟩
  have h := (((cfgM m).win 8).blk t).view.emb_mem_set (ix3 0 (i 1) (i 2) : S1x1024x768.Idx)
  have e : (((cfgM m).win 8).blk t).view.emb (ix3 0 (i 1) (i 2) : S1x1024x768.Idx) = i :=
    (emb_rowsOut m t (ix3 0 (i 1) (i 2))).trans (eq_ix3 i).symm
  exact ⟨t, flush_rows m t, e ▸ h⟩

/-- After the run, slab `t` of the masked rows' array is what point `t` left. -/
theorem rowsArr_eq (c : Dev nD) : rowsArr m c = rowsEnd m c :=
  (dats m 0 c).arrAt_eq_of_cover 8 (rowsEnd m c) (fun t _ => flushed_rows m c t) (covered_rows m)

/-- Read through its block, an array of attention weights is itself. -/
theorem read_attn (t : Fin grid0.N) (X : Vec F S16x512 .f32) : (((cfgM m).win 9).blk t).view.read (Elt F) X = X :=
  funext fun y => congrArg X (emb_attn m t y)

/-- What the last point writes back is its block of the attention weights. -/
theorem flushed_attn (c : Dev nD) (t : Fin grid0.N) :
    (dats m 0 c).flushed 9 t = (((cfgM m).win 9).blk t).view.read (Elt F) (attnLeft m c) :=
  (show (dats m 0 c).flushed 9 t = attnLeft m c from after_9 m c t).trans (read_attn m t (attnLeft m c)).symm

/-- That block is the whole array. -/
theorem covered_attn (i : S16x512.Idx) :
    ∃ t : Fin grid0.N, ((cfgM m).win 9).flush t = true ∧ i ∈ (((cfgM m).win 9).blk t).view.set := by
  let t : Fin grid0.N := ⟨7, by decide⟩
  have h := (((cfgM m).win 9).blk t).view.emb_mem_set (show (((cfgM m).win 9).blk t).view.ty.Idx from i)
  have e : (((cfgM m).win 9).blk t).view.emb (show (((cfgM m).win 9).blk t).view.ty.Idx from i) = i := emb_attn m t i
  exact ⟨t, (flush_attn m _).mpr rfl, e ▸ h⟩

/-- After the run, the attention weights' array is what the last point left. -/
theorem attnArr_eq (c : Dev nD) : attnArr m c = attnLeft m c :=
  (dats m 0 c).arrAt_eq_of_cover 9 (attnLeft m c) (fun t _ => flushed_attn m c t) (covered_attn m)

/-! ## The blocks, of the arguments -/

/-- The rows that the region finds: the groups, two to a slab. -/
theorem V_v3 (c : Dev nD) : V m c main_v3 = shapeCast S8x1024x768 (m ((c : Thread nD τ).loc main_arg1)) shapeCasts_S16x512x768_S8x1024x768 := by
  show StableHlo.after [_, _, _, _] _ _ = _
  after_results
  rfl
/-- The lengths, as a row. -/
theorem V_v2 (c : Dev nD) : V m c main_v2 = shapeCast S1x16 (m ((c : Thread nD τ).loc main_arg3)) shapeCasts_S16_S1x16 := by
  show StableHlo.after [_, _, _, _] _ _ = _
  after_results
  rfl
/-- The query's bias, as a row. -/
theorem V_v1 (c : Dev nD) : V m c main_v1 = shapeCast S1x1024 (m ((c : Thread nD τ).loc main_arg7)) shapeCasts_S1024_S1x1024 := by
  show StableHlo.after [_, _, _, _] _ _ = _
  after_results
  rfl
/-- The nodes' bias, as a row. -/
theorem V_v0 (c : Dev nD) : V m c main_v0 = shapeCast S1x1024 (m ((c : Thread nD τ).loc main_arg5)) shapeCasts_S1024_S1x1024 := by
  show StableHlo.after [_, _, _, _] _ _ = _
  after_results
  rfl

/-- Two groups to a slab: slab `n / 2` of the regrouped rows holds group `n`, in its upper half for an even `n` and in its
    lower half for an odd one. -/
theorem regroup_at (x : Vec F S16x512x768 .f32) (n : Fin 16) (r : Fin 512) (e : Fin 768) :
    shapeCast S8x1024x768 x shapeCasts_S16x512x768_S8x1024x768
        (ix3 ⟨n.val / 2, by have := n.isLt; omega⟩ ⟨512 * (n.val % 2) + r.val, by have := r.isLt; omega⟩ e)
      = x (ix3 n r e) := by
  refine shapeCast_apply _ _ _ _ ?_
  rw [Shape.rowMajor_val_three, Shape.rowMajor_val_three]
  show (n.val * 512 + r.val) * 768 + e.val = (n.val / 2 * 1024 + (512 * (n.val % 2) + r.val)) * 768 + e.val
  omega

/-- The rows of group `n` in the block of point `n / 2`. -/
theorem rowsAt_at (c : Dev nD) (n : Fin 16) (r : Fin 512) (e : Fin 768) :
    rowsAt m c ⟨n.val / 2, by have := n.isLt; show _ < 8; omega⟩ (ix3 0 ⟨512 * (n.val % 2) + r.val, by have := r.isLt; omega⟩ e)
      = (m ((c : Thread nD τ).loc main_arg1) : Vec F S16x512x768 .f32) (ix3 n r e) :=
  (congrArg (V m c main_v3) (emb_rowsIn m ⟨n.val / 2, by have := n.isLt; show _ < 8; omega⟩
      (ix3 0 ⟨512 * (n.val % 2) + r.val, by have := r.isLt; omega⟩ e))).trans
    ((congrFun (V_v3 m c) _).trans (regroup_at (m ((c : Thread nD τ).loc main_arg1)) n r e))

/-- The blocks that are whole arrays: the weights of the nodes' layer, -/
theorem wNodes_eq (c : Dev nD) : wNodes m c = m ((c : Thread nD τ).loc main_arg4) :=
  (funext fun y => congrArg (V m c main_arg4) (funext fun a => Fin.ext
    (((cfgM m).win 1).rect_emb_val_of_index_zero (t0 m) a (by fin_cases a <;> rfl) y))).trans
  (V_of_not_written m c main_arg4 (by decide) (by decide) (by decide) (by decide))
/-- their bias, -/
theorem bNodes_eq (c : Dev nD) : bNodes m c = shapeCast S1x1024 (m ((c : Thread nD τ).loc main_arg5)) shapeCasts_S1024_S1x1024 :=
  (funext fun y => congrArg (V m c main_v0) (funext fun a => Fin.ext
    (((cfgM m).win 2).rect_emb_val_of_index_zero (t0 m) a (by fin_cases a <;> rfl) y))).trans (V_v0 m c)
/-- the query, -/
theorem query_eq (c : Dev nD) : query m c = m ((c : Thread nD τ).loc main_arg0) :=
  (funext fun y => congrArg (V m c main_arg0) (funext fun a => Fin.ext
    (((cfgM m).win 3).rect_emb_val_of_index_zero (t0 m) a (by fin_cases a <;> rfl) y))).trans
  (V_of_not_written m c main_arg0 (by decide) (by decide) (by decide) (by decide))
/-- the weights of its layer, -/
theorem wQuery_eq (c : Dev nD) : wQuery m c = m ((c : Thread nD τ).loc main_arg6) :=
  (funext fun y => congrArg (V m c main_arg6) (funext fun a => Fin.ext
    (((cfgM m).win 4).rect_emb_val_of_index_zero (t0 m) a (by fin_cases a <;> rfl) y))).trans
  (V_of_not_written m c main_arg6 (by decide) (by decide) (by decide) (by decide))
/-- their bias, -/
theorem bQuery_eq (c : Dev nD) : bQuery m c = shapeCast S1x1024 (m ((c : Thread nD τ).loc main_arg7)) shapeCasts_S1024_S1x1024 :=
  (funext fun y => congrArg (V m c main_v1) (funext fun a => Fin.ext
    (((cfgM m).win 5).rect_emb_val_of_index_zero (t0 m) a (by fin_cases a <;> rfl) y))).trans (V_v1 m c)
/-- the probabilities, -/
theorem probs_eq (c : Dev nD) : probs m c = m ((c : Thread nD τ).loc main_arg2) :=
  (funext fun y => congrArg (V m c main_arg2) (funext fun a => Fin.ext
    (((cfgM m).win 6).rect_emb_val_of_index_zero (t0 m) a (by fin_cases a <;> rfl) y))).trans
  (V_of_not_written m c main_arg2 (by decide) (by decide) (by decide) (by decide))
/-- and the lengths, as a row and as the table. -/
theorem lensRow_eq (c : Dev nD) : lensRow m c = shapeCast S1x16 (m ((c : Thread nD τ).loc main_arg3)) shapeCasts_S16_S1x16 :=
  (funext fun y => congrArg (V m c main_v2) (funext fun a => Fin.ext
    (((cfgM m).win 7).rect_emb_val_of_index_zero (t0 m) a (by fin_cases a <;> rfl) y))).trans (V_v2 m c)
theorem lens_eq (c : Dev nD) : lens m = m ((c : Thread nD τ).loc main_arg3) :=
  (V_pre m c 0).symm.trans (V_of_not_written m c main_arg3 (by decide) (by decide) (by decide) (by decide))

end Cert.KernelIdeal.Work

end
-- ==== Proof.Attention.Formula.lean ====
/- The formula of the masked attention over the extended reals, entry by entry: the padding mask, the hidden rows, the
   scores, the softmax within each group, the logits, and the softmax over all of them. -/
module

public import Idealize.ShloMosaic.Lib.Pointwise
public import Idealize.ShloMosaic.Lib.WordCmp

@[expose] public section

noncomputable section

namespace Cert.Attention

open Idealize.ShloMosaic

/-- The value that a maximum starts from: the float word of −∞. -/
abbrev least : EReal := Ideal.ofBits .f32 0xFF800000#32
/-- The float word of ten. -/
abbrev ten : EReal := Ideal.ofBits .f32 0x41200000#32

/-- The padding mask: 1 at a row below the group's length (a signed word), 0 past it. -/
def keep (len : BitVec 32) (r : ℕ) : EReal := if (r : ℤ) < len.toInt then 1 else 0

/-- A hidden entry: `tanh` of the masked row times a column of the weights, plus the bias. -/
def nodeHidden (x : Fin 768 → EReal) (k : EReal) (w : Fin 768 → EReal) (b : EReal) : EReal :=
  Ideal.tanh (∑ e, x e * k * w e + b)

/-- An entry of the hidden query. -/
def queryHidden (q : Fin 1024 → EReal) (w : Fin 1024 → EReal) (b : EReal) : EReal :=
  Ideal.tanh (∑ e, q e * w e + b)

variable (s : Fin 16 → Fin 512 → EReal) (p : Fin 16 → EReal)

/-- A group's exponentials: of its scores less their maximum. -/
def groupExp (n : Fin 16) (r : Fin 512) : EReal := Ideal.exp (s n r - Finset.univ.fold max least (s n))
/-- The softmax within a group. -/
def weight (n : Fin 16) (r : Fin 512) : EReal := Ideal.div (groupExp s n r) (∑ x, groupExp s n x)
/-- The logits: the weights times ten times the group's probability. -/
def logit (n : Fin 16) (r : Fin 512) : EReal := weight s n r * (p n * ten)
/-- The greatest logit. -/
def top : EReal := Finset.univ.fold max least fun y : Fin 16 × Fin 512 => logit s p y.1 y.2
/-- The exponentials of the logits less the greatest. -/
def allExp (n : Fin 16) (r : Fin 512) : EReal := Ideal.exp (logit s p n r - top s p)
/-- The softmax over all rows of all groups. -/
def attn (n : Fin 16) (r : Fin 512) : EReal := Ideal.div (allExp s p n r) (∑ y : Fin 16 × Fin 512, allExp s p y.1 y.2)

/-! ## A maximum and its start -/

/-- A maximum is no less than what it starts from. -/
theorem max_fold {α : Type} (b : EReal) (f : α → EReal) (t : Finset α) : max b (t.fold max b f) = t.fold max b f :=
  max_eq_right ((Finset.le_fold_max b).mpr (Or.inl le_rfl))

/-- A maximum over a renamed index. -/
theorem fold_equiv {α β : Type} [Fintype α] [Fintype β] (e : α ≃ β) (b : EReal) (f : β → EReal) :
    Finset.univ.fold max b (fun x => f (e x)) = Finset.univ.fold max b f := by
  rw [← Finset.map_univ_equiv e, Finset.fold_map]
  rfl

/-! ## Ten and a tenth -/

/-- The float word of ten is ten. -/
theorem ten_eq : ten = ((10 : ℝ) : EReal) := by
  show Ideal.ieee 8 23 (0x41200000#32) = _
  unfold Ideal.ieee
  simp
  rw [← EReal.coe_mul]
  norm_num

/-- Over a tenth is times ten, whatever the order. -/
theorem over_tenth (a p : EReal) : Ideal.div (a * p) (Ideal.div 1 ten) = a * (p * ten) := by
  have h : Ideal.div 1 ten = ((1 / 10 : ℝ) : EReal) := by
    rw [ten_eq, Ideal.div_coe (by norm_num), one_mul]
  rw [h, Ideal.div_coe (by norm_num), ten_eq, mul_assoc]
  norm_num

/-! ## The mask, as the programs compute it -/

/-- A row number is a small word: its signed value is itself. -/
theorem row_toInt {r : ℕ} (h : r < 1024) : (BitVec.ofNat 32 r).toInt = r :=
  WordCmp.toInt_ofNat_of_lt (by omega)

/-- The comparison of a row number with a length, as a bit. -/
theorem cmp_row (len : BitVec 32) {r : ℕ} (h : r < 1024) :
    IntOp.cmpi .slt (BitVec.ofNat 32 r) len = if (r : ℤ) < len.toInt then 1#1 else 0#1 := by
  show BitVec.ofBool (decide ((BitVec.ofNat 32 r).toInt < len.toInt)) = _
  rw [row_toInt h]
  split <;> simp [*]

/-- The bit as an unsigned number is the mask. -/
theorem keep_unsigned (len : BitVec 32) {r : ℕ} (h : r < 1024) :
    (FloatOps.uitofp (F := Ideal) .f32 (IntOp.cmpi .slt (BitVec.ofNat 32 r) len) : EReal) = keep len r := by
  rw [cmp_row len h]
  show ((((if (r : ℤ) < len.toInt then 1#1 else 0#1 : BitVec 1).toNat : ℝ)) : EReal) = _
  unfold keep
  split <;> simp

/-- The bit, widened, as a signed number is the mask. -/
theorem keep_signed (len : BitVec 32) {r : ℕ} (h : r < 1024) :
    (FloatOps.sitofp (F := Ideal) .f32 (BitVec.setWidth 32 (IntOp.cmpi .slt (BitVec.ofNat 32 r) len)) : EReal) = keep len r := by
  rw [cmp_row len h]
  show (((BitVec.setWidth 32 (if (r : ℤ) < len.toInt then 1#1 else 0#1 : BitVec 1)).toInt : ℝ) : EReal) = _
  unfold keep
  split <;> simp

/-- Choosing zero past the length is multiplying by the mask. -/
theorem select_keep (len : BitVec 32) {r : ℕ} (h : r < 1024) (v : EReal) :
    Scalar.select (IntOp.cmpi .slt (BitVec.ofNat 32 r) len) v 0 = v * keep len r := by
  rw [cmp_row len h, Scalar.select_def]
  unfold keep
  split <;> simp

end Cert.Attention

end
-- ==== Proof.KernelIdeal.Value.lean ====
/- What the kernel computes over the extended reals, entry by entry of its arguments. -/
module

public import proofs.«01_k».proof.Proof.KernelIdeal.Arrays
public import proofs.«01_k».proof.Proof.Attention.Formula

@[expose] public section

noncomputable section

namespace Cert.KernelIdeal.Work

open Idealize.ShloMosaic Idealize.ShloMosaic.TcCoe
open Cert.KernelIdeal.Gen Cert.Attention

/-! ## A point's block of rows -/

/-- The masked block in its upper half: the rows of the point's first group, by that group's length. -/
theorem pay5_upper (a b : BitVec 32) (x : Vec Ideal S1x1024x768 .f32) (r : ℕ) (h : r < 512) (e : Fin 768) :
    k0_pay5 (F := Ideal) a b x (ix2 ⟨r, by omega⟩ e) = x (ix3 0 ⟨r, by omega⟩ e) * keep a r := by
  have h5 : ((r : ℤ) < (512#32 : BitVec 32).toInt) := by
    rw [show (512#32 : BitVec 32).toInt = 512 from by decide]; omega
  pointwise [k0_pay5]
  rw [cmp_row 512#32 (by omega : r < 1024), if_pos h5, Scalar.select_def, Scalar.select_def, if_pos (show (1#1 : BitVec 1) = 1 from rfl), if_pos (show (1#1 : BitVec 1) = 1 from rfl),
    keep_signed a (by omega)]

/-- The masked block in its lower half: the rows of the point's second group, by that group's length. -/
theorem pay5_lower (a b : BitVec 32) (x : Vec Ideal S1x1024x768 .f32) (r : ℕ) (h : r < 512) (e : Fin 768) :
    k0_pay5 (F := Ideal) a b x (ix2 ⟨512 + r, by omega⟩ e) = x (ix3 0 ⟨512 + r, by omega⟩ e) * keep b r := by
  have h5 : ¬(((512 + r : ℕ) : ℤ) < (512#32 : BitVec 32).toInt) := by
    rw [show (512#32 : BitVec 32).toInt = 512 from by decide]; omega
  have hs : IntOp.subi (BitVec.ofNat 32 (512 + r)) 512#32 = BitVec.ofNat 32 r := by
    apply BitVec.eq_of_toNat_eq
    show (BitVec.ofNat 32 (512 + r) - 512#32).toNat = _
    simp only [BitVec.toNat_sub, BitVec.toNat_ofNat]
    omega
  pointwise [k0_pay5]
  rw [cmp_row 512#32 (by omega : 512 + r < 1024), if_neg h5, Scalar.select_def, Scalar.select_def, if_neg (by decide), if_neg (by decide),
    hs, keep_signed b (by omega)]

/-- The length that a point reads first is that of group `2t`, -/
theorem lenA_eq (T : Vec Ideal S16 .i32) (t : Fin grid0.N) :
    lenA T (grid0.coords t) = T (ix1 ⟨2 * t.val, by have : t.val < 8 := t.isLt; omega⟩) := by
  have ht : t.val < 8 := t.isLt
  refine congrArg T (funext fun a => Fin.ext ?_)
  fin_cases a
  show (Scalar.indexCast (Scalar.muli 2#32 (BitVec.ofNat 32 (grid0.coords t 0).val))).toNat = 2 * t.val
  rw [coord_val]
  generalize t.val = k at ht ⊢
  interval_cases k <;> rfl

/-- and the one it reads second that of group `2t + 1`. -/
theorem lenB_eq (T : Vec Ideal S16 .i32) (t : Fin grid0.N) :
    lenB T (grid0.coords t) = T (ix1 ⟨2 * t.val + 1, by have : t.val < 8 := t.isLt; omega⟩) := by
  have ht : t.val < 8 := t.isLt
  refine congrArg T (funext fun a => Fin.ext ?_)
  fin_cases a
  show (Scalar.indexCast (Scalar.addi (Scalar.muli 2#32 (BitVec.ofNat 32 (grid0.coords t 0).val)) 1#32)).toNat = 2 * t.val + 1
  rw [coord_val]
  generalize t.val = k at ht ⊢
  interval_cases k <;> rfl

/-- Group `n` is in the block of point `n / 2`, -/
abbrev slab (n : Fin 16) : Fin grid0.N := ⟨n.val / 2, by have := n.isLt; show _ < 8; omega⟩
/-- its row `r` at this row of the block. -/
abbrev inSlab (n : Fin 16) (r : Fin 512) : Fin 1024 := ⟨512 * (n.val % 2) + r.val, by have := r.isLt; omega⟩

/-- The masked rows of group `n`, in the block that holds it. -/
theorem pay5_at (T : Vec Ideal S16 .i32) (x : Vec Ideal S1x1024x768 .f32) (n : Fin 16) (r : Fin 512) (e : Fin 768) :
    k0_pay5 (F := Ideal) (lenA T (grid0.coords (slab n))) (lenB T (grid0.coords (slab n))) x (ix2 (inSlab n r) e)
      = x (ix3 0 (inSlab n r) e) * keep (T (ix1 n)) r.val := by
  have hr := r.isLt
  rw [lenA_eq, lenB_eq]
  rcases Nat.mod_two_eq_zero_or_one n.val with h | h
  · have e1 : inSlab n r = ⟨r.val, by omega⟩ := Fin.ext (by show 512 * (n.val % 2) + r.val = r.val; omega)
    have e2 : (⟨2 * (slab n).val, by have := n.isLt; show 2 * (n.val / 2) < 16; omega⟩ : Fin 16) = n := Fin.ext (by show 2 * (n.val / 2) = n.val; omega)
    rw [e1, pay5_upper _ _ _ _ hr, e2]
  · have e1 : inSlab n r = ⟨512 + r.val, by omega⟩ := Fin.ext (by show 512 * (n.val % 2) + r.val = 512 + r.val; omega)
    have e2 : (⟨2 * (slab n).val + 1, by have := n.isLt; show 2 * (n.val / 2) + 1 < 16; omega⟩ : Fin 16) = n := Fin.ext (by show 2 * (n.val / 2) + 1 = n.val; omega)
    rw [e1, pay5_lower _ _ _ _ hr, e2]

/-! ## The attention weights of a table of scores -/

/-- The last point's arithmetic: the two softmaxes and the mask, of the table of scores `d` (groups along its columns). -/
theorem pay2_at (d : Vec Ideal S512x16 .f32) (p : Vec Ideal S1x16 .f32) (l : Vec Ideal S1x16 .i32) (n : Fin 16) (r : Fin 512) :
    k0_pay2 d p l (ix2 n r)
      = attn (fun n r => d (ix2 r n)) (fun n => p (ix2 0 n)) n r * keep (l (ix2 0 n)) r.val := by
  pointwise [k0_pay2]
  rw [select_keep _ (by have := r.isLt; omega)]
  have ht : Finset.univ.fold max least (fun y : Fin 512 × Fin 16 => logit (fun n r => d (ix2 r n)) (fun n => p (ix2 0 n)) y.2 y.1)
      = top (fun n r => d (ix2 r n)) (fun n => p (ix2 0 n)) :=
    fold_equiv (Equiv.prodComm (Fin 512) (Fin 16)) least fun y : Fin 16 × Fin 512 => logit (fun n r => d (ix2 r n)) (fun n => p (ix2 0 n)) y.1 y.2
  refine congrArg (· * keep (l (ix2 0 n)) r.val) ?_
  unfold attn
  rw [Fintype.sum_prod_type, Finset.sum_comm]
  unfold allExp
  rw [← ht]
  rfl

/-! ## The results -/

variable (m : (ℓ : Loc nD τ sig) → Buf (Elt Ideal) ℓ) (c : Dev nD)

/-- The arguments as arrays of extended reals and of words. -/
abbrev argQuery : Vec Ideal S1x1024 .f32 := m ((c.tc : Thread nD τ).loc main_arg0)
abbrev argGroups : Vec Ideal S16x512x768 .f32 := m ((c.tc : Thread nD τ).loc main_arg1)
abbrev argProbs : Vec Ideal S1x16 .f32 := m ((c.tc : Thread nD τ).loc main_arg2)
abbrev argLens : Vec Ideal S16 .i32 := m ((c.tc : Thread nD τ).loc main_arg3)
abbrev argWNodes : Vec Ideal S768x1024 .f32 := m ((c.tc : Thread nD τ).loc main_arg4)
abbrev argBNodes : Vec Ideal S1024 .f32 := m ((c.tc : Thread nD τ).loc main_arg5)
abbrev argWQuery : Vec Ideal S1024x1024 .f32 := m ((c.tc : Thread nD τ).loc main_arg6)
abbrev argBQuery : Vec Ideal S1024 .f32 := m ((c.tc : Thread nD τ).loc main_arg7)

/-- The score of row `r` of group `n`. -/
def scoreAt (n : Fin 16) (r : Fin 512) : EReal :=
  ∑ j : Fin 1024, nodeHidden (fun e => argGroups m c (ix3 n r e)) (keep (argLens m c (ix1 n)) r.val) (fun e => argWNodes m c (ix2 e j)) (argBNodes m c (ix1 j))
    * queryHidden (fun e => argQuery m c (ix2 0 e)) (fun e => argWQuery m c (ix2 e j)) (argBQuery m c (ix1 j))

/-- A row vector made of a list of 1024 entries, read at an entry. -/
theorem row1024_at (b : Vec Ideal S1024 .f32) (j : Fin 1024) : shapeCast S1x1024 b shapeCasts_S1024_S1x1024 (ix2 0 j) = b (ix1 j) := by
  pointwise

/-- The query column in the scratch, entry by entry. -/
theorem qCol_at (j : Fin 1024) :
    qCol m c (ix2 j 0) = queryHidden (fun e => argQuery m c (ix2 0 e)) (fun e => argWQuery m c (ix2 e j)) (argBQuery m c (ix1 j)) := by
  have h : qCol m c (ix2 j 0) = Ideal.tanh (∑ e, query m c (ix2 0 e) * wQuery m c (ix2 e j) + bQuery m c (ix2 0 j)) := by
    unfold qCol
    generalize query m c = q
    generalize wQuery m c = w
    generalize bQuery m c = b
    pointwise [k0_pay3]
  rw [h, query_eq, wQuery_eq, bQuery_eq, row1024_at]
  rfl

/-- The table of scores after the last point, entry by entry. -/
theorem accAt_at (n : Fin 16) (r : Fin 512) : accAt m c anyScores 8 (ix2 r n) = scoreAt m c n r := by
  have h : ∀ (T : Vec Ideal S16 .i32) (x : Vec Ideal S1x1024x768 .f32) (b : Vec Ideal S1x1024 .f32) (q : Vec Ideal S1024x1 .bf16)
      (w : Vec Ideal S768x1024 .f32),
      dotCol T (grid0.coords (slab n)) x b q (k0_pay4 w) (ix2 (inSlab n r) 0)
        = ∑ j : Fin 1024, nodeHidden (fun e => x (ix3 0 (inSlab n r) e)) (keep (T (ix1 n)) r.val) (fun e => w (ix2 e j)) (b (ix2 0 j)) * q (ix2 j 0) := by
    intro T x b q w
    pointwise [dotCol]
    refine Finset.sum_congr rfl fun j _ => congrArg (· * q (ix2 j 0)) ?_
    pointwise [k0_pay7, k0_pay4]
    unfold nodeHidden
    exact congrArg (fun v => Ideal.tanh (v + b (ix2 0 j))) (Finset.sum_congr rfl fun e _ => congrArg (· * w (ix2 e j)) (pay5_at T x n r e))
  refine (acc_at (lens m) (rowsAt m c) (bNodes m c) (qCol m c) (wCast m c) anyScores 8 le_rfl r n (by have := n.isLt; omega)).trans ?_
  refine (h (lens m) (rowsAt m c (slab n)) (bNodes m c) (qCol m c) (wNodes m c)).trans ?_
  unfold scoreAt
  refine Finset.sum_congr rfl fun j _ => ?_
  have hx : (fun e => rowsAt m c (slab n) (ix3 0 (inSlab n r) e)) = fun e => argGroups m c (ix3 n r e) := funext fun e => rowsAt_at m c n r e
  rw [hx, qCol_at, lens_eq m c, wNodes_eq, bNodes_eq, row1024_at]

/-- The attention weights' array, entry by entry. -/
theorem attnArr_at (n : Fin 16) (r : Fin 512) :
    attnArr m c (ix2 n r) = attn (scoreAt m c) (fun n => argProbs m c (ix2 0 n)) n r * keep (argLens m c (ix1 n)) r.val := by
  have hl : ∀ l : Vec Ideal S16 .i32, shapeCast S1x16 l shapeCasts_S16_S1x16 (ix2 0 n) = l (ix1 n) := by
    intro l; pointwise
  have hs : (fun n r => accAt m c anyScores 8 (ix2 r n)) = scoreAt m c := funext fun n => funext fun r => accAt_at m c n r
  rw [attnArr_eq]
  refine (pay2_at (accAt m c anyScores 8) (probs m c) (lensRow m c) n r).trans ?_
  rw [hs, probs_eq, lensRow_eq, hl]

/-- The masked rows' array, entry by entry. -/
theorem rowsArr_at (n : Fin 16) (r : Fin 512) (e : Fin 768) :
    rowsArr m c (ix3 ⟨n.val / 2, by have := n.isLt; omega⟩ (inSlab n r) e) = argGroups m c (ix3 n r e) * keep (argLens m c (ix1 n)) r.val := by
  have h : ∀ (a b : BitVec 32) (x : Vec Ideal S1x1024x768 .f32) (k : Fin 1024), k0_pay6 (F := Ideal) a b x (ix3 0 k e) = k0_pay5 (F := Ideal) a b x (ix2 k e) := by
    intro a b x k; pointwise [k0_pay6]
  rw [rowsArr_eq]
  refine (h (lenA (lens m) (grid0.coords (slab n))) (lenB (lens m) (grid0.coords (slab n))) (rowsAt m c (slab n)) (inSlab n r)).trans ?_
  rw [pay5_at, rowsAt_at, lens_eq m c]

end Cert.KernelIdeal.Work

end
-- ==== Proof.Reference.Stages.lean ====
/- The reference's two results, cut into the steps of its formula. -/
module

public import proofs.«01_k».proof.Proof.Gen.ReferenceIdeal.Run

@[expose] public section

noncomputable section

namespace Cert.ReferenceIdeal.Work

open Idealize.ShloMosaic Idealize.ShloMosaic.TcCoe
open Cert.ReferenceIdeal.Gen

variable {F : FTy → Type} [FloatOps F]

/-- The padding mask: 1 at the rows below a group's length, 0 past it. -/
def maskOf (len : Vec F S16 .i32) : FVec F S16x512 .f32 :=
  uitofp .f32 (cmpi .slt
    (broadcastInDim S16x512 ![0, 1] bcast_S1x512_S16x512_0_1 (broadcastInDim S1x512 ![1] bcast_S512_S1x512_1 (iotaInDim S512 32 0)))
    (broadcastInDim S16x512 ![0, 1] bcast_S16x1_S16x512_0_1 (broadcastInDim S16x1 ![0] bcast_S16_S16x1_0 len)))

/-- The groups with the rows past their length zeroed. -/
def rowsOf (x : FVec F S16x512x768 .f32) (len : Vec F S16 .i32) : FVec F S16x512x768 .f32 :=
  mulf x (broadcastInDim S16x512x768 ![0, 1, 2] bcast_S16x512x1_S16x512x768_0_1_2
    (broadcastInDim S16x512x1 ![0, 1] bcast_S16x512_S16x512x1_0_1 (maskOf len)))

/-- The hidden rows: the layer `tanh(x W + b)` of every row. -/
def hiddenOf (x : FVec F S16x512x768 .f32) (w : FVec F S768x1024 .f32) (b : FVec F S1024 .f32) : FVec F S16x512x1024 .f32 :=
  Host.tanh (addf (Host.dotGeneral dot_S16x512x768_S768x1024_S16x512x1024_2_0_01_1_n_n none x w)
    (broadcastInDim S16x512x1024 ![0, 1, 2] bcast_S1x1x1024_S16x512x1024_0_1_2 (broadcastInDim S1x1x1024 ![2] bcast_S1024_S1x1x1024_2 b)))

/-- The hidden query. -/
def queryOf (q : FVec F S1x1024 .f32) (w : FVec F S1024x1024 .f32) (b : FVec F S1024 .f32) : FVec F S1024 .f32 :=
  shapeCast _ (Host.tanh (addf (Host.dotGeneral dot_S1x1024_S1024x1024_S1x1024_1_0_0_1_n_n none q w)
    (broadcastInDim S1x1024 ![1] bcast_S1024_S1x1024_1 b))) shapeCasts_S1x1024_S1024

/-- The scores: each hidden row against the hidden query. -/
def scoresOf (h : FVec F S16x512x1024 .f32) (q : FVec F S1024 .f32) : FVec F S16x512x1 .f32 :=
  broadcastInDim S16x512x1 ![0, 1] bcast_S16x512_S16x512x1_0_1 (Host.dotGeneral dot_S16x512x1024_S1024_S16x512_2_0_01_n_n_n none h q)

/-- The exponentials of the scores less their group's maximum. -/
def groupExp (s : FVec F S16x512x1 .f32) : FVec F S16x512x1 .f32 :=
  Host.exp (subf s (broadcastInDim S16x512x1 ![0, 1, 2] bcast_S16x1x1_S16x512x1_0_1_2 (broadcastInDim S16x1x1 ![0, 2] bcast_S16x1_S16x1x1_0_2
    (maximumf (broadcastInDim S16x1 ![] bcast_S_S16x1 (constant S_ .f32 0xFF800000#32))
      (Host.reduce FloatOps.maximumf s (constant S_ .f32 0xFF800000#32) reducesTo_S16x512x1_S16x1_d1 h_S_)))))

/-- The softmax within each group. -/
def groupSoftmax (s : FVec F S16x512x1 .f32) : FVec F S16x512x1 .f32 :=
  Host.divf (groupExp s) (broadcastInDim S16x512x1 ![0, 1, 2] bcast_S16x1x1_S16x512x1_0_1_2 (broadcastInDim S16x1x1 ![0, 2] bcast_S16x1_S16x1x1_0_2
    (Host.reduceAdd (groupExp s) (constant S_ .f32 0x00000000#32) reducesTo_S16x512x1_S16x1_d1 h_S_)))

/-- The logits: the weights within the groups times the groups' probabilities, over a tenth. -/
def logitsOf (a : FVec F S16x512x1 .f32) (p : FVec F S1x16 .f32) : FVec F S16x512x1 .f32 :=
  Host.divf (mulf a (broadcastInDim S16x512x1 ![0, 1, 2] bcast_S16x1x1_S16x512x1_0_1_2 (shapeCast _ p shapeCasts_S1x16_S16x1x1)))
    (broadcastInDim S16x512x1 ![] bcast_S_S16x512x1 (Host.divf (constant S_ .f32 0x3F800000#32) (constant S_ .f32 0x41200000#32)))

/-- The exponentials of the logits, as one row, less their maximum. -/
def allExp (l : FVec F S8192 .f32) : FVec F S8192 .f32 :=
  Host.exp (subf l (broadcastInDim S8192 ![0] bcast_S1_S8192_0 (broadcastInDim S1 ![] bcast_S_S1
    (maximumf (constant S_ .f32 0xFF800000#32) (Host.reduce FloatOps.maximumf l (constant S_ .f32 0xFF800000#32) reducesTo_S8192_S_d0 h_S_)))))

/-- The softmax over all rows of all groups. -/
def allSoftmax (l : FVec F S8192 .f32) : FVec F S8192 .f32 :=
  Host.divf (allExp l) (broadcastInDim S8192 ![0] bcast_S1_S8192_0 (broadcastInDim S1 ![] bcast_S_S1
    (Host.reduceAdd (allExp l) (constant S_ .f32 0x00000000#32) reducesTo_S8192_S_d0 h_S_)))

/-- The attention weights of the scores `s`: the second softmax, with the rows past their group's length zeroed. -/
def attnOf (s : FVec F S16x512x1 .f32) (p : FVec F S1x16 .f32) (len : Vec F S16 .i32) : FVec F S16x512x1 .f32 :=
  mulf (shapeCast _ (allSoftmax (shapeCast _ (logitsOf (groupSoftmax s) p) shapeCasts_S16x512x1_S8192)) shapeCasts_S8192_S16x512x1)
    (broadcastInDim S16x512x1 ![0, 1] bcast_S16x512_S16x512x1_0_1 (maskOf len))

/-- The first result is these steps, one after the other. -/
theorem res_attn (m : (ℓ : Loc nD τ sig) → Buf (Elt F) ℓ) (c : Dev nD) :
    Value.res_main_v52 m c
      = attnOf (scoresOf (hiddenOf (rowsOf (m ((c.tc : Thread nD τ).loc main_arg1)) (m ((c.tc : Thread nD τ).loc main_arg3)))
            (m ((c.tc : Thread nD τ).loc main_arg4)) (m ((c.tc : Thread nD τ).loc main_arg5)))
          (queryOf (m ((c.tc : Thread nD τ).loc main_arg0)) (m ((c.tc : Thread nD τ).loc main_arg6)) (m ((c.tc : Thread nD τ).loc main_arg7))))
        (m ((c.tc : Thread nD τ).loc main_arg2)) (m ((c.tc : Thread nD τ).loc main_arg3)) := by
  set_option maxRecDepth 65536 in
  unfold Value.res_main_v52 attnOf allSoftmax allExp logitsOf groupSoftmax groupExp scoresOf queryOf hiddenOf rowsOf maskOf
  rfl

end Cert.ReferenceIdeal.Work

end
-- ==== Proof.Reference.Value.lean ====
/- What the reference computes over the extended reals, entry by entry of its arguments. -/
module

public import proofs.«01_k».proof.Proof.Reference.Stages
public import proofs.«01_k».proof.Proof.Attention.Formula

@[expose] public section

noncomputable section

namespace Cert.ReferenceIdeal.Work

open Idealize.ShloMosaic Idealize.ShloMosaic.TcCoe
open Cert.ReferenceIdeal.Gen

/-- The mask's entry. -/
theorem maskOf_at (len : Vec Ideal S16 .i32) (n : Fin 16) (r : Fin 512) :
    maskOf (F := Ideal) len (ix2 n r) = Attention.keep (len (ix1 n)) r.val := by
  pointwise [maskOf]
  exact Attention.keep_unsigned _ (by have := r.isLt; omega)

/-- An entry of the masked groups. -/
theorem rowsOf_at (x : FVec Ideal S16x512x768 .f32) (len : Vec Ideal S16 .i32) (n : Fin 16) (r : Fin 512) (e : Fin 768) :
    rowsOf x len (ix3 n r e) = x (ix3 n r e) * Attention.keep (len (ix1 n)) r.val := by
  pointwise [rowsOf]
  rw [maskOf_at]

/-- A score: the hidden row against the hidden query. -/
theorem scores_at (x : FVec Ideal S16x512x768 .f32) (len : Vec Ideal S16 .i32) (w : FVec Ideal S768x1024 .f32) (b : FVec Ideal S1024 .f32)
    (q : FVec Ideal S1x1024 .f32) (wq : FVec Ideal S1024x1024 .f32) (bq : FVec Ideal S1024 .f32) (n : Fin 16) (r : Fin 512) :
    scoresOf (hiddenOf (rowsOf x len) w b) (queryOf q wq bq) (ix3 n r 0)
      = ∑ j : Fin 1024, Attention.nodeHidden (fun e => x (ix3 n r e)) (Attention.keep (len (ix1 n)) r.val) (fun e => w (ix2 e j)) (b (ix1 j))
          * Attention.queryHidden (fun e => q (ix2 0 e)) (fun e => wq (ix2 e j)) (bq (ix1 j)) := by
  pointwise [scoresOf]
  refine Finset.sum_congr rfl fun j _ => ?_
  pointwise [hiddenOf, queryOf]
  unfold Attention.nodeHidden Attention.queryHidden
  simp only [rowsOf_at]

section Softmax

variable (s : FVec Ideal S16x512x1 .f32) (p : FVec Ideal S1x16 .f32)

/-- The scores as a table of groups and rows. -/
abbrev table (n : Fin 16) (r : Fin 512) : EReal := s (ix3 n r 0)
/-- The groups' probabilities as a list. -/
abbrev probList (n : Fin 16) : EReal := p (ix2 0 n)

/-- A group's exponentials. -/
theorem groupExp_at (n : Fin 16) (r : Fin 512) : groupExp s (ix3 n r 0) = Attention.groupExp (table s) n r := by
  pointwise [groupExp]
  rw [Attention.max_fold]
  rfl

/-- The weights within a group. -/
theorem groupSoftmax_at (n : Fin 16) (r : Fin 512) : groupSoftmax s (ix3 n r 0) = Attention.weight (table s) n r := by
  pointwise [groupSoftmax]
  simp only [groupExp_at]
  rfl

/-- The logits: over a tenth is times ten. -/
theorem logitsOf_at (n : Fin 16) (r : Fin 512) :
    logitsOf (groupSoftmax s) p (ix3 n r 0) = Attention.logit (table s) (probList p) n r := by
  pointwise [logitsOf]
  rw [groupSoftmax_at]
  exact Attention.over_tenth _ _

/-- The logits as one row: entry `512 n + r` is row `r` of group `n`. -/
abbrev logitRow : FVec Ideal S8192 .f32 := shapeCast _ (logitsOf (groupSoftmax s) p) shapeCasts_S16x512x1_S8192

/-- Groups and rows, numbered in one row. -/
abbrev number : Fin 16 × Fin 512 ≃ Fin 8192 := finProdFinEquiv

/-- An entry of that row. -/
theorem logitRow_at (y : Fin 16 × Fin 512) : logitRow s p (ix1 (number y)) = Attention.logit (table s) (probList p) y.1 y.2 := by
  refine (shapeCast_apply (logitsOf (groupSoftmax s) p) shapeCasts_S16x512x1_S8192 (ix1 (number y)) (ix3 y.1 y.2 0) ?_).trans
    (logitsOf_at s p y.1 y.2)
  rw [Shape.rowMajor_val_three, Shape.rowMajor_val_one]
  show (y.1.val * 512 + y.2.val) * 1 + 0 = (finProdFinEquiv y).val
  rw [finProdFinEquiv_apply_val]
  omega

/-- The exponentials of the logits less the greatest. -/
theorem allExp_at (y : Fin 16 × Fin 512) : allExp (logitRow s p) (ix1 (number y)) = Attention.allExp (table s) (probList p) y.1 y.2 := by
  have h : ∀ l : FVec Ideal S8192 .f32, allExp l (ix1 (number y))
      = Ideal.exp (l (ix1 (number y)) - max Attention.least (Finset.univ.fold max Attention.least fun k : Fin 8192 => l (ix1 k))) := by
    intro l; pointwise [allExp]
  rw [h, Attention.max_fold, ← Attention.fold_equiv number]
  simp only [logitRow_at]
  rfl

/-- The softmax over all rows of all groups. -/
theorem allSoftmax_at (y : Fin 16 × Fin 512) : allSoftmax (logitRow s p) (ix1 (number y)) = Attention.attn (table s) (probList p) y.1 y.2 := by
  have h : ∀ l : FVec Ideal S8192 .f32, allSoftmax l (ix1 (number y))
      = Ideal.div (allExp l (ix1 (number y))) (∑ k : Fin 8192, allExp l (ix1 k)) := by
    intro l; pointwise [allSoftmax]
  rw [h, ← Equiv.sum_comp number]
  simp only [allExp_at]
  rfl

/-- The attention weights. -/
theorem attnOf_at (len : Vec Ideal S16 .i32) (n : Fin 16) (r : Fin 512) :
    attnOf s p len (ix3 n r 0) = Attention.attn (table s) (probList p) n r * Attention.keep (len (ix1 n)) r.val := by
  have h : ∀ v : FVec Ideal S8192 .f32, shapeCast S16x512x1 v shapeCasts_S8192_S16x512x1 (ix3 n r 0) = v (ix1 (number (n, r))) := by
    intro v
    refine shapeCast_apply v shapeCasts_S8192_S16x512x1 (ix3 n r 0) (ix1 (number (n, r))) ?_
    rw [Shape.rowMajor_val_three, Shape.rowMajor_val_one]
    show (finProdFinEquiv (n, r)).val = (n.val * 512 + r.val) * 1 + 0
    rw [finProdFinEquiv_apply_val]
    show r.val + 512 * n.val = (n.val * 512 + r.val) * 1 + 0
    omega
  have hm : ∀ k : FVec Ideal S16x512 .f32, broadcastInDim S16x512x1 ![0, 1] bcast_S16x512_S16x512x1_0_1 k (ix3 n r 0) = k (ix2 n r) := by
    intro k; pointwise
  unfold attnOf
  refine (congrArg₂ (· * ·) ((h _).trans (allSoftmax_at s p (n, r))) ((hm _).trans (maskOf_at len n r)))

end Softmax

end Cert.ReferenceIdeal.Work

end
-- ==== Proof.Attention.Equation.lean ====
/- The equation: from equal arguments the kernel's two results and the reference's are equal over the extended reals. -/
module

public import proofs.«01_k».proof.Proof.KernelIdeal.Value
public import proofs.«01_k».proof.Proof.Reference.Value
public import proofs.«01_k».proof.Defs

@[expose] public section

noncomputable section

namespace Cert.Attention

open Idealize.ShloMosaic Idealize.ShloMosaic.TcCoe Idealize.SL.Sem
open Cert.KernelIdeal Cert.KernelIdeal.Gen Cert.KernelIdeal.Work Cert.ReferenceIdeal.Gen

variable (m : (ℓ : Loc KernelIdeal.nD KernelIdeal.τ KernelIdeal.sig) → Buf (Elt Ideal) ℓ) (c : Dev KernelIdeal.nD)

/-- The kernel's attention weights, in the shape of the result, are the reference's formula of the kernel's arguments. -/
theorem attn_eq : shapeCast S16x512x1 (attnArr m c) shapeCasts_S16x512_S16x512x1
    = ReferenceIdeal.Work.attnOf (ReferenceIdeal.Work.scoresOf
        (ReferenceIdeal.Work.hiddenOf (ReferenceIdeal.Work.rowsOf (argGroups m c) (argLens m c)) (argWNodes m c) (argBNodes m c))
        (ReferenceIdeal.Work.queryOf (argQuery m c) (argWQuery m c) (argBQuery m c))) (argProbs m c) (argLens m c) := by
  funext i
  have hk : ∀ (n : Fin 16) (r : Fin 512),
      shapeCast S16x512x1 (attnArr m c) shapeCasts_S16x512_S16x512x1 (ix3 n r 0) = attnArr m c (ix2 n r) := fun n r =>
    shapeCast_apply (attnArr m c) shapeCasts_S16x512_S16x512x1 (ix3 n r 0) (ix2 n r) (by
      rw [Shape.rowMajor_val_two, Shape.rowMajor_val_three]
      show n.val * 512 + r.val = (n.val * 512 + r.val) * 1 + 0
      omega)
  have h0 : i 2 = (0 : Fin 1) := Subsingleton.elim (α := Fin 1) _ _
  have hi : i = ix3 (i 0) (i 1) 0 := (eq_ix3 i).trans (congrArg (ix3 (i 0) (i 1)) h0)
  rw [hi]
  refine (hk (i 0) (i 1)).trans ((attnArr_at m c (i 0) (i 1)).trans ?_)
  refine Eq.trans ?_ (ReferenceIdeal.Work.attnOf_at _ (argProbs m c) (argLens m c) (i 0) (i 1)).symm
  refine congrArg (fun s => attn s (fun n => argProbs m c (ix2 0 n)) (i 0) (i 1) * keep (argLens m c (ix1 (i 0))) (i 1).val) ?_
  exact funext fun n => funext fun r => (ReferenceIdeal.Work.scores_at (argGroups m c) (argLens m c) (argWNodes m c) (argBNodes m c)
    (argQuery m c) (argWQuery m c) (argBQuery m c) n r).symm

/-- The kernel's masked groups, in the shape of the result, are the reference's. -/
theorem rows_eq : shapeCast S16x512x768 (rowsArr m c) shapeCasts_S8x1024x768_S16x512x768
    = ReferenceIdeal.Work.rowsOf (argGroups m c) (argLens m c) := by
  funext i
  have hk : ∀ (n : Fin 16) (r : Fin 512) (e : Fin 768),
      shapeCast S16x512x768 (rowsArr m c) shapeCasts_S8x1024x768_S16x512x768 (ix3 n r e)
        = rowsArr m c (ix3 ⟨n.val / 2, by have := n.isLt; omega⟩ (inSlab n r) e) := fun n r e =>
    shapeCast_apply (rowsArr m c) shapeCasts_S8x1024x768_S16x512x768 (ix3 n r e) _ (by
      rw [Shape.rowMajor_val_three, Shape.rowMajor_val_three]
      show (n.val / 2 * 1024 + (512 * (n.val % 2) + r.val)) * 768 + e.val = (n.val * 512 + r.val) * 768 + e.val
      omega)
  rw [eq_ix3 i]
  exact (hk (i 0) (i 1) (i 2)).trans ((rowsArr_at m c (i 0) (i 1) (i 2)).trans
    (ReferenceIdeal.Work.rowsOf_at (argGroups m c) (argLens m c) (i 0) (i 1) (i 2)).symm)

/-- Over the extended reals the kernel and the reference end with the same two results, their arguments unchanged. -/
theorem algebraic : algebraic_KernelIdeal_ReferenceIdeal := by
  intro m g m' g' _ hargs
  refine ⟨fun c => shapeCast S16x512x1 (attnArr m c) shapeCasts_S16x512_S16x512x1,
    fun c => shapeCast S16x512x768 (rowsArr m c) shapeCasts_S8x1024x768_S16x512x768, run_values m g, ?_⟩
  refine (θ_run _ _ _).mono (fun r h c => ?_) (ReferenceIdeal.Value.run m' g')
  obtain ⟨e0, e1, e2, e3, e4, e5, e6, e7⟩ := hargs c
  obtain ⟨h0, h1, h⟩ := h c
  refine ⟨h0.trans ?_, h1.trans ?_, h⟩
  · rw [ReferenceIdeal.Work.res_attn, e0, e1, e2, e3, e4, e5, e6, e7]
    exact (attn_eq m c).symm
  · rw [e1, e3]
    exact (rows_eq m c).symm

end Cert.Attention

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Reference.Run
public import proofs.«01_k».proof.Proof.Kernel.Run
public import proofs.«01_k».proof.Proof.KernelIdeal.Run
public import proofs.«01_k».proof.Proof.Attention.Equation
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, by
  exact ⟨fun m g _ => Cert.Kernel.Work.run_frame m g, fun m g _ => Cert.KernelIdeal.Work.run_frame m g,
    fun m g _ => Cert.ReferenceIdeal.Work.run_frame m g, trivial, Cert.Attention.algebraic⟩⟩

end Cert.Proof

end
